-- ==== Defs.lean ====
def Pre_Kernel [hPre_labels_read_inside : Cert.Pre_labels_read_inside.Facts] (m : (ℓ : Loc Cert.Kernel.nD Cert.Kernel.τ Cert.Kernel.sig) → Buf (Elt Bits) ℓ) : Prop :=
  ∀ c : Dev Cert.Kernel.nD,
    (Cert.Pre_labels_read_inside.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_labels_read_inside : Cert.Pre_labels_read_inside.Facts] (m : (ℓ : Loc Cert.KernelIdeal.nD Cert.KernelIdeal.τ Cert.KernelIdeal.sig) → Buf (Elt Ideal) ℓ) : Prop :=
  ∀ c : Dev Cert.KernelIdeal.nD,
    (Cert.Pre_labels_read_inside.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_labels_read_inside [hPre_labels_read_inside : Cert.Pre_labels_read_inside.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_labels_read_inside.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_labels_read_inside : Cert.Pre_labels_read_inside.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_labels_read_inside : Cert.Pre_labels_read_inside.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_labels_read_inside [hReferenceIdeal : Cert.ReferenceIdeal.Facts] [hPre_labels_read_inside : Cert.Pre_labels_read_inside.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_labels_read_inside m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_labels_read_inside : Cert.Pre_labels_read_inside.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_labels_read_inside : Cert.Pre_labels_read_inside.Facts),
    quiescent_Kernel (hKernel := hKernel) (hPre_labels_read_inside := hPre_labels_read_inside)
    ∧ quiescent_KernelIdeal (hKernelIdeal := hKernelIdeal) (hPre_labels_read_inside := hPre_labels_read_inside)
    ∧ quiescent_ReferenceIdeal (hReferenceIdeal := hReferenceIdeal)
    ∧ quiescent_ReferenceIdeal_pre_labels_read_inside (hReferenceIdeal := hReferenceIdeal) (hPre_labels_read_inside := hPre_labels_read_inside)
    ∧ preserves_Kernel_KernelIdeal
    ∧ algebraic_KernelIdeal_ReferenceIdeal (hKernelIdeal := hKernelIdeal) (hReferenceIdeal := hReferenceIdeal) (hPre_labels_read_inside := hPre_labels_read_inside)
-- ==== Pre_labels_read_inside.lean ====
abbrev S1024x100000 : Shape := ⟨2, ![1024, 100000]⟩
abbrev S1024 : Shape := ⟨1, ![1024]⟩
abbrev S_ : Shape := ⟨0, ![]⟩

class Facts : Prop where
  bcast_S_S1024 : S_.BroadcastsInDim S1024 (![] : Fin 0 → Fin S1024.rank)

variable [Facts]

def fn {F : FTy → Type} [FloatOps F] (main_arg0 : FVec F S1024x100000 .f32) (main_arg1 : IVec S1024 32) : IVec S1024 1 :=
  let main_c : IVec S_ 32 := constantI S_ 32 0#32
  let main_v0 : IVec S1024 32 := broadcastInDim S1024 ![] bcast_S_S1024 main_c
  let main_v1 : IVec S1024 1 := cmpi .sge main_arg1 main_v0
  let main_c_0 : IVec S_ 32 := constantI S_ 32 99968#32
  let main_v2 : IVec S1024 32 := broadcastInDim S1024 ![] bcast_S_S1024 main_c_0
  let main_v3 : IVec S1024 1 := cmpi .slt main_arg1 main_v2
  let main_v4 : IVec S1024 1 := andi main_v1 main_v3
  main_v4
-- ==== Kernel.lean ====
abbrev S1024x100000 : Shape := ⟨2, ![1024, 100000]⟩
abbrev S1024 : Shape := ⟨1, ![1024]⟩
abbrev S1024x1 : Shape := ⟨2, ![1024, 1]⟩
abbrev S1x1 : Shape := ⟨2, ![1, 1]⟩
abbrev S32x100000 : Shape := ⟨2, ![32, 100000]⟩
abbrev S32x1 : Shape := ⟨2, ![32, 1]⟩
abbrev S1 : Shape := ⟨1, ![1]⟩
abbrev S1x128 : Shape := ⟨2, ![1, 128]⟩
abbrev S128 : Shape := ⟨1, ![128]⟩
abbrev S32 : Shape := ⟨1, ![32]⟩
abbrev S1x32x1 : Shape := ⟨3, ![1, 32, 1]⟩
abbrev S1x1x1 : Shape := ⟨3, ![1, 1, 1]⟩
abbrev S_ : Shape := ⟨0, ![]⟩

abbrev nBuf : Space → Nat
  | .hbm => 7
  | .vmem => 4
  | .smem => 4
  | _ => 0

abbrev bufTy : (tb : Table) → Fin (tcTables nBuf tb) → BufTy
  | .hbm, ⟨0, _⟩ => ⟨S1024x100000, .f32⟩
  | .hbm, ⟨1, _⟩ => ⟨S1024, .i32⟩
  | .hbm, ⟨2, _⟩ => ⟨S1024x1, .i32⟩
  | .hbm, ⟨3, _⟩ => ⟨S1x1, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S32x100000, .f32⟩
  | .local _ .vmem, ⟨1, _⟩ => ⟨S32x100000, .f32⟩
  | .local _ .vmem, ⟨2, _⟩ => ⟨S32x1, .i32⟩
  | .local _ .vmem, ⟨3, _⟩ => ⟨S32x1, .i32⟩
  | .local _ .smem, ⟨0, _⟩ => ⟨S32x1, .i32⟩
  | .local _ .smem, ⟨1, _⟩ => ⟨S32x1, .i32⟩
  | .local _ .smem, ⟨2, _⟩ => ⟨S1x1, .f32⟩
  | .local _ .smem, ⟨3, _⟩ => ⟨S1, .f32⟩
  | _, _ => ⟨S1024x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.smem, 0, rfl⟩
abbrev cc0_stg2_1 : Ref sig .tc := ⟨.smem, 1, rfl⟩
abbrev cc0_stg3_0 : Ref sig .tc := ⟨.smem, 2, rfl⟩
abbrev cc0_scratch0 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![32], ![false]⟩

def k0_off1 (v6 : BitVec 32) : Fin 2 → Nat :=
  let c0_10 : Index := 0#32
  let c0_i32 : BitVec 32 := 0#32
  let v8 : BitVec 1 := Scalar.cmpi .sgt v6 c0_i32
  let v9 : BitVec 32 := Scalar.extui v8
  let c0_i32_5 : BitVec 32 := 0#32
  let v10 : BitVec 1 := Scalar.cmpi .slt v6 c0_i32_5
  let v11 : BitVec 32 := Scalar.extui v10
  let v12 : BitVec 32 := Scalar.subi v9 v11
  let c128_i32 : BitVec 32 := 128#32
  let c0_i32_6 : BitVec 32 := 0#32
  let v13 : BitVec 1 := Scalar.cmpi .sgt c128_i32 c0_i32_6
  let v14 : BitVec 32 := Scalar.extui v13
  let c0_i32_7 : BitVec 32 := 0#32
  let v15 : BitVec 1 := Scalar.cmpi .slt c128_i32 c0_i32_7
  let v16 : BitVec 32 := Scalar.extui v15
  let v17 : BitVec 32 := Scalar.subi v14 v16
  let v18 : BitVec 1 := Scalar.cmpi .ne v12 v17
  let v19 : BitVec 32 := Scalar.remsi v6 c128_i32
  let c0_i32_8 : BitVec 32 := 0#32
  let v20 : BitVec 1 := Scalar.cmpi .ne v19 c0_i32_8
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let c128_i32_9 : BitVec 32 := 128#32
  let v24 : BitVec 32 := Scalar.muli v23 c128_i32_9
  let v25 : Index := Scalar.indexCast v24
  ![0, v25.toNat]

def k0_chk1 (v6 : BitVec 32) : Prop :=
  (∀ a, (k0_off1 v6) a + S1x128.size a ≤ S32x100000.size a)
theorem k0_off1_inb : ∀ (v6 : BitVec 32) (k0_hw1 : k0_chk1 v6), ∀ a, (k0_off1 v6) a + S1x128.size a ≤ S32x100000.size a := fun v6 k0_hw1 => k0_hw1

def k0_off2 (v36 : BitVec 32) : Fin 2 → Nat :=
  let c1_21 : Index := 1#32
  let c0_i32_14 : BitVec 32 := 0#32
  let v38 : BitVec 1 := Scalar.cmpi .sgt v36 c0_i32_14
  let v39 : BitVec 32 := Scalar.extui v38
  let c0_i32_15 : BitVec 32 := 0#32
  let v40 : BitVec 1 := Scalar.cmpi .slt v36 c0_i32_15
  let v41 : BitVec 32 := Scalar.extui v40
  let v42 : BitVec 32 := Scalar.subi v39 v41
  let c128_i32_13 : BitVec 32 := 128#32
  let c0_i32_16 : BitVec 32 := 0#32
  let v43 : BitVec 1 := Scalar.cmpi .sgt c128_i32_13 c0_i32_16
  let v44 : BitVec 32 := Scalar.extui v43
  let c0_i32_17 : BitVec 32 := 0#32
  let v45 : BitVec 1 := Scalar.cmpi .slt c128_i32_13 c0_i32_17
  let v46 : BitVec 32 := Scalar.extui v45
  let v47 : BitVec 32 := Scalar.subi v44 v46
  let v48 : BitVec 1 := Scalar.cmpi .ne v42 v47
  let v49 : BitVec 32 := Scalar.remsi v36 c128_i32_13
  let c0_i32_18 : BitVec 32 := 0#32
  let v50 : BitVec 1 := Scalar.cmpi .ne v49 c0_i32_18
  let v51 : BitVec 1 := Scalar.andi v48 v50
  let v37 : BitVec 32 := Scalar.divsi v36 c128_i32_13
  let c1_i32_19 : BitVec 32 := 1#32
  let v52 : BitVec 32 := Scalar.subi v37 c1_i32_19
  let v53 : BitVec 32 := Scalar.select v51 v52 v37
  let c128_i32_20 : BitVec 32 := 128#32
  let v54 : BitVec 32 := Scalar.muli v53 c128_i32_20
  let v55 : Index := Scalar.indexCast v54
  ![1, v55.toNat]

def k0_chk2 (v36 : BitVec 32) : Prop :=
  (∀ a, (k0_off2 v36) a + S1x128.size a ≤ S32x100000.size a)
theorem k0_off2_inb : ∀ (v36 : BitVec 32) (k0_hw2 : k0_chk2 v36), ∀ a, (k0_off2 v36) a + S1x128.size a ≤ S32x100000.size a := fun v36 k0_hw2 => k0_hw2

def k0_off3 (v66 : BitVec 32) : Fin 2 → Nat :=
  let c2_33 : Index := 2#32
  let c0_i32_26 : BitVec 32 := 0#32
  let v68 : BitVec 1 := Scalar.cmpi .sgt v66 c0_i32_26
  let v69 : BitVec 32 := Scalar.extui v68
  let c0_i32_27 : BitVec 32 := 0#32
  let v70 : BitVec 1 := Scalar.cmpi .slt v66 c0_i32_27
  let v71 : BitVec 32 := Scalar.extui v70
  let v72 : BitVec 32 := Scalar.subi v69 v71
  let c128_i32_25 : BitVec 32 := 128#32
  let c0_i32_28 : BitVec 32 := 0#32
  let v73 : BitVec 1 := Scalar.cmpi .sgt c128_i32_25 c0_i32_28
  let v74 : BitVec 32 := Scalar.extui v73
  let c0_i32_29 : BitVec 32 := 0#32
  let v75 : BitVec 1 := Scalar.cmpi .slt c128_i32_25 c0_i32_29
  let v76 : BitVec 32 := Scalar.extui v75
  let v77 : BitVec 32 := Scalar.subi v74 v76
  let v78 : BitVec 1 := Scalar.cmpi .ne v72 v77
  let v79 : BitVec 32 := Scalar.remsi v66 c128_i32_25
  let c0_i32_30 : BitVec 32 := 0#32
  let v80 : BitVec 1 := Scalar.cmpi .ne v79 c0_i32_30
  let v81 : BitVec 1 := Scalar.andi v78 v80
  let v67 : BitVec 32 := Scalar.divsi v66 c128_i32_25
  let c1_i32_31 : BitVec 32 := 1#32
  let v82 : BitVec 32 := Scalar.subi v67 c1_i32_31
  let v83 : BitVec 32 := Scalar.select v81 v82 v67
  let c128_i32_32 : BitVec 32 := 128#32
  let v84 : BitVec 32 := Scalar.muli v83 c128_i32_32
  let v85 : Index := Scalar.indexCast v84
  ![2, v85.toNat]

def k0_chk3 (v66 : BitVec 32) : Prop :=
  (∀ a, (k0_off3 v66) a + S1x128.size a ≤ S32x100000.size a)
theorem k0_off3_inb : ∀ (v66 : BitVec 32) (k0_hw3 : k0_chk3 v66), ∀ a, (k0_off3 v66) a + S1x128.size a ≤ S32x100000.size a := fun v66 k0_hw3 => k0_hw3

def k0_off4 (v96 : BitVec 32) : Fin 2 → Nat :=
  let c3_45 : Index := 3#32
  let c0_i32_38 : BitVec 32 := 0#32
  let v98 : BitVec 1 := Scalar.cmpi .sgt v96 c0_i32_38
  let v99 : BitVec 32 := Scalar.extui v98
  let c0_i32_39 : BitVec 32 := 0#32
  let v100 : BitVec 1 := Scalar.cmpi .slt v96 c0_i32_39
  let v101 : BitVec 32 := Scalar.extui v100
  let v102 : BitVec 32 := Scalar.subi v99 v101
  let c128_i32_37 : BitVec 32 := 128#32
  let c0_i32_40 : BitVec 32 := 0#32
  let v103 : BitVec 1 := Scalar.cmpi .sgt c128_i32_37 c0_i32_40
  let v104 : BitVec 32 := Scalar.extui v103
  let c0_i32_41 : BitVec 32 := 0#32
  let v105 : BitVec 1 := Scalar.cmpi .slt c128_i32_37 c0_i32_41
  let v106 : BitVec 32 := Scalar.extui v105
  let v107 : BitVec 32 := Scalar.subi v104 v106
  let v108 : BitVec 1 := Scalar.cmpi .ne v102 v107
  let v109 : BitVec 32 := Scalar.remsi v96 c128_i32_37
  let c0_i32_42 : BitVec 32 := 0#32
  let v110 : BitVec 1 := Scalar.cmpi .ne v109 c0_i32_42
  let v111 : BitVec 1 := Scalar.andi v108 v110
  let v97 : BitVec 32 := Scalar.divsi v96 c128_i32_37
  let c1_i32_43 : BitVec 32 := 1#32
  let v112 : BitVec 32 := Scalar.subi v97 c1_i32_43
  let v113 : BitVec 32 := Scalar.select v111 v112 v97
  let c128_i32_44 : BitVec 32 := 128#32
  let v114 : BitVec 32 := Scalar.muli v113 c128_i32_44
  let v115 : Index := Scalar.indexCast v114
  ![3, v115.toNat]

def k0_chk4 (v96 : BitVec 32) : Prop :=
  (∀ a, (k0_off4 v96) a + S1x128.size a ≤ S32x100000.size a)
theorem k0_off4_inb : ∀ (v96 : BitVec 32) (k0_hw4 : k0_chk4 v96), ∀ a, (k0_off4 v96) a + S1x128.size a ≤ S32x100000.size a := fun v96 k0_hw4 => k0_hw4

def k0_off5 (v126 : BitVec 32) : Fin 2 → Nat :=
  let c4_57 : Index := 4#32
  let c0_i32_50 : BitVec 32 := 0#32
  let v128 : BitVec 1 := Scalar.cmpi .sgt v126 c0_i32_50
  let v129 : BitVec 32 := Scalar.extui v128
  let c0_i32_51 : BitVec 32 := 0#32
  let v130 : BitVec 1 := Scalar.cmpi .slt v126 c0_i32_51
  let v131 : BitVec 32 := Scalar.extui v130
  let v132 : BitVec 32 := Scalar.subi v129 v131
  let c128_i32_49 : BitVec 32 := 128#32
  let c0_i32_52 : BitVec 32 := 0#32
  let v133 : BitVec 1 := Scalar.cmpi .sgt c128_i32_49 c0_i32_52
  let v134 : BitVec 32 := Scalar.extui v133
  let c0_i32_53 : BitVec 32 := 0#32
  let v135 : BitVec 1 := Scalar.cmpi .slt c128_i32_49 c0_i32_53
  let v136 : BitVec 32 := Scalar.extui v135
  let v137 : BitVec 32 := Scalar.subi v134 v136
  let v138 : BitVec 1 := Scalar.cmpi .ne v132 v137
  let v139 : BitVec 32 := Scalar.remsi v126 c128_i32_49
  let c0_i32_54 : BitVec 32 := 0#32
  let v140 : BitVec 1 := Scalar.cmpi .ne v139 c0_i32_54
  let v141 : BitVec 1 := Scalar.andi v138 v140
  let v127 : BitVec 32 := Scalar.divsi v126 c128_i32_49
  let c1_i32_55 : BitVec 32 := 1#32
  let v142 : BitVec 32 := Scalar.subi v127 c1_i32_55
  let v143 : BitVec 32 := Scalar.select v141 v142 v127
  let c128_i32_56 : BitVec 32 := 128#32
  let v144 : BitVec 32 := Scalar.muli v143 c128_i32_56
  let v145 : Index := Scalar.indexCast v144
  ![4, v145.toNat]

def k0_chk5 (v126 : BitVec 32) : Prop :=
  (∀ a, (k0_off5 v126) a + S1x128.size a ≤ S32x100000.size a)
theorem k0_off5_inb : ∀ (v126 : BitVec 32) (k0_hw5 : k0_chk5 v126), ∀ a, (k0_off5 v126) a + S1x128.size a ≤ S32x100000.size a := fun v126 k0_hw5 => k0_hw5

def k0_off6 (v156 : BitVec 32) : Fin 2 → Nat :=
  let c5_69 : Index := 5#32
  let c0_i32_62 : BitVec 32 := 0#32
  let v158 : BitVec 1 := Scalar.cmpi .sgt v156 c0_i32_62
  let v159 : BitVec 32 := Scalar.extui v158
  let c0_i32_63 : BitVec 32 := 0#32
  let v160 : BitVec 1 := Scalar.cmpi .slt v156 c0_i32_63
  let v161 : BitVec 32 := Scalar.extui v160
  let v162 : BitVec 32 := Scalar.subi v159 v161
  let c128_i32_61 : BitVec 32 := 128#32
  let c0_i32_64 : BitVec 32 := 0#32
  let v163 : BitVec 1 := Scalar.cmpi .sgt c128_i32_61 c0_i32_64
  let v164 : BitVec 32 := Scalar.extui v163
  let c0_i32_65 : BitVec 32 := 0#32
  let v165 : BitVec 1 := Scalar.cmpi .slt c128_i32_61 c0_i32_65
  let v166 : BitVec 32 := Scalar.extui v165
  let v167 : BitVec 32 := Scalar.subi v164 v166
  let v168 : BitVec 1 := Scalar.cmpi .ne v162 v167
  let v169 : BitVec 32 := Scalar.remsi v156 c128_i32_61
  let c0_i32_66 : BitVec 32 := 0#32
  let v170 : BitVec 1 := Scalar.cmpi .ne v169 c0_i32_66
  let v171 : BitVec 1 := Scalar.andi v168 v170
  let v157 : BitVec 32 := Scalar.divsi v156 c128_i32_61
  let c1_i32_67 : BitVec 32 := 1#32
  let v172 : BitVec 32 := Scalar.subi v157 c1_i32_67
  let v173 : BitVec 32 := Scalar.select v171 v172 v157
  let c128_i32_68 : BitVec 32 := 128#32
  let v174 : BitVec 32 := Scalar.muli v173 c128_i32_68
  let v175 : Index := Scalar.indexCast v174
  ![5, v175.toNat]

def k0_chk6 (v156 : BitVec 32) : Prop :=
  (∀ a, (k0_off6 v156) a + S1x128.size a ≤ S32x100000.size a)
theorem k0_off6_inb : ∀ (v156 : BitVec 32) (k0_hw6 : k0_chk6 v156), ∀ a, (k0_off6 v156) a + S1x128.size a ≤ S32x100000.size a := fun v156 k0_hw6 => k0_hw6

def k0_off7 (v186 : BitVec 32) : Fin 2 → Nat :=
  let c6_81 : Index := 6#32
  let c0_i32_74 : BitVec 32 := 0#32
  let v188 : BitVec 1 := Scalar.cmpi .sgt v186 c0_i32_74
  let v189 : BitVec 32 := Scalar.extui v188
  let c0_i32_75 : BitVec 32 := 0#32
  let v190 : BitVec 1 := Scalar.cmpi .slt v186 c0_i32_75
  let v191 : BitVec 32 := Scalar.extui v190
  let v192 : BitVec 32 := Scalar.subi v189 v191
  let c128_i32_73 : BitVec 32 := 128#32
  let c0_i32_76 : BitVec 32 := 0#32
  let v193 : BitVec 1 := Scalar.cmpi .sgt c128_i32_73 c0_i32_76
  let v194 : BitVec 32 := Scalar.extui v193
  let c0_i32_77 : BitVec 32 := 0#32
  let v195 : BitVec 1 := Scalar.cmpi .slt c128_i32_73 c0_i32_77
  let v196 : BitVec 32 := Scalar.extui v195
  let v197 : BitVec 32 := Scalar.subi v194 v196
  let v198 : BitVec 1 := Scalar.cmpi .ne v192 v197
  let v199 : BitVec 32 := Scalar.remsi v186 c128_i32_73
  let c0_i32_78 : BitVec 32 := 0#32
  let v200 : BitVec 1 := Scalar.cmpi .ne v199 c0_i32_78
  let v201 : BitVec 1 := Scalar.andi v198 v200
  let v187 : BitVec 32 := Scalar.divsi v186 c128_i32_73
  let c1_i32_79 : BitVec 32 := 1#32
  let v202 : BitVec 32 := Scalar.subi v187 c1_i32_79
  let v203 : BitVec 32 := Scalar.select v201 v202 v187
  let c128_i32_80 : BitVec 32 := 128#32
  let v204 : BitVec 32 := Scalar.muli v203 c128_i32_80
  let v205 : Index := Scalar.indexCast v204
  ![6, v205.toNat]

def k0_chk7 (v186 : BitVec 32) : Prop :=
  (∀ a, (k0_off7 v186) a + S1x128.size a ≤ S32x100000.size a)
theorem k0_off7_inb : ∀ (v186 : BitVec 32) (k0_hw7 : k0_chk7 v186), ∀ a, (k0_off7 v186) a + S1x128.size a ≤ S32x100000.size a := fun v186 k0_hw7 => k0_hw7

def k0_off8 (v216 : BitVec 32) : Fin 2 → Nat :=
  let c7_93 : Index := 7#32
  let c0_i32_86 : BitVec 32 := 0#32
  let v218 : BitVec 1 := Scalar.cmpi .sgt v216 c0_i32_86
  let v219 : BitVec 32 := Scalar.extui v218
  let c0_i32_87 : BitVec 32 := 0#32
  let v220 : BitVec 1 := Scalar.cmpi .slt v216 c0_i32_87
  let v221 : BitVec 32 := Scalar.extui v220
  let v222 : BitVec 32 := Scalar.subi v219 v221
  let c128_i32_85 : BitVec 32 := 128#32
  let c0_i32_88 : BitVec 32 := 0#32
  let v223 : BitVec 1 := Scalar.cmpi .sgt c128_i32_85 c0_i32_88
  let v224 : BitVec 32 := Scalar.extui v223
  let c0_i32_89 : BitVec 32 := 0#32
  let v225 : BitVec 1 := Scalar.cmpi .slt c128_i32_85 c0_i32_89
  let v226 : BitVec 32 := Scalar.extui v225
  let v227 : BitVec 32 := Scalar.subi v224 v226
  let v228 : BitVec 1 := Scalar.cmpi .ne v222 v227
  let v229 : BitVec 32 := Scalar.remsi v216 c128_i32_85
  let c0_i32_90 : BitVec 32 := 0#32
  let v230 : BitVec 1 := Scalar.cmpi .ne v229 c0_i32_90
  let v231 : BitVec 1 := Scalar.andi v228 v230
  let v217 : BitVec 32 := Scalar.divsi v216 c128_i32_85
  let c1_i32_91 : BitVec 32 := 1#32
  let v232 : BitVec 32 := Scalar.subi v217 c1_i32_91
  let v233 : BitVec 32 := Scalar.select v231 v232 v217
  let c128_i32_92 : BitVec 32 := 128#32
  let v234 : BitVec 32 := Scalar.muli v233 c128_i32_92
  let v235 : Index := Scalar.indexCast v234
  ![7, v235.toNat]

def k0_chk8 (v216 : BitVec 32) : Prop :=
  (∀ a, (k0_off8 v216) a + S1x128.size a ≤ S32x100000.size a)
theorem k0_off8_inb : ∀ (v216 : BitVec 32) (k0_hw8 : k0_chk8 v216), ∀ a, (k0_off8 v216) a + S1x128.size a ≤ S32x100000.size a := fun v216 k0_hw8 => k0_hw8

def k0_off9 (v246 : BitVec 32) : Fin 2 → Nat :=
  let c8_105 : Index := 8#32
  let c0_i32_98 : BitVec 32 := 0#32
  let v248 : BitVec 1 := Scalar.cmpi .sgt v246 c0_i32_98
  let v249 : BitVec 32 := Scalar.extui v248
  let c0_i32_99 : BitVec 32 := 0#32
  let v250 : BitVec 1 := Scalar.cmpi .slt v246 c0_i32_99
  let v251 : BitVec 32 := Scalar.extui v250
  let v252 : BitVec 32 := Scalar.subi v249 v251
  let c128_i32_97 : BitVec 32 := 128#32
  let c0_i32_100 : BitVec 32 := 0#32
  let v253 : BitVec 1 := Scalar.cmpi .sgt c128_i32_97 c0_i32_100
  let v254 : BitVec 32 := Scalar.extui v253
  let c0_i32_101 : BitVec 32 := 0#32
  let v255 : BitVec 1 := Scalar.cmpi .slt c128_i32_97 c0_i32_101
  let v256 : BitVec 32 := Scalar.extui v255
  let v257 : BitVec 32 := Scalar.subi v254 v256
  let v258 : BitVec 1 := Scalar.cmpi .ne v252 v257
  let v259 : BitVec 32 := Scalar.remsi v246 c128_i32_97
  let c0_i32_102 : BitVec 32 := 0#32
  let v260 : BitVec 1 := Scalar.cmpi .ne v259 c0_i32_102
  let v261 : BitVec 1 := Scalar.andi v258 v260
  let v247 : BitVec 32 := Scalar.divsi v246 c128_i32_97
  let c1_i32_103 : BitVec 32 := 1#32
  let v262 : BitVec 32 := Scalar.subi v247 c1_i32_103
  let v263 : BitVec 32 := Scalar.select v261 v262 v247
  let c128_i32_104 : BitVec 32 := 128#32
  let v264 : BitVec 32 := Scalar.muli v263 c128_i32_104
  let v265 : Index := Scalar.indexCast v264
  ![8, v265.toNat]

def k0_chk9 (v246 : BitVec 32) : Prop :=
  (∀ a, (k0_off9 v246) a + S1x128.size a ≤ S32x100000.size a)
theorem k0_off9_inb : ∀ (v246 : BitVec 32) (k0_hw9 : k0_chk9 v246), ∀ a, (k0_off9 v246) a + S1x128.size a ≤ S32x100000.size a := fun v246 k0_hw9 => k0_hw9

def k0_off10 (v276 : BitVec 32) : Fin 2 → Nat :=
  let c9_117 : Index := 9#32
  let c0_i32_110 : BitVec 32 := 0#32
  let v278 : BitVec 1 := Scalar.cmpi .sgt v276 c0_i32_110
  let v279 : BitVec 32 := Scalar.extui v278
  let c0_i32_111 : BitVec 32 := 0#32
  let v280 : BitVec 1 := Scalar.cmpi .slt v276 c0_i32_111
  let v281 : BitVec 32 := Scalar.extui v280
  let v282 : BitVec 32 := Scalar.subi v279 v281
  let c128_i32_109 : BitVec 32 := 128#32
  let c0_i32_112 : BitVec 32 := 0#32
  let v283 : BitVec 1 := Scalar.cmpi .sgt c128_i32_109 c0_i32_112
  let v284 : BitVec 32 := Scalar.extui v283
  let c0_i32_113 : BitVec 32 := 0#32
  let v285 : BitVec 1 := Scalar.cmpi .slt c128_i32_109 c0_i32_113
  let v286 : BitVec 32 := Scalar.extui v285
  let v287 : BitVec 32 := Scalar.subi v284 v286
  let v288 : BitVec 1 := Scalar.cmpi .ne v282 v287
  let v289 : BitVec 32 := Scalar.remsi v276 c128_i32_109
  let c0_i32_114 : BitVec 32 := 0#32
  let v290 : BitVec 1 := Scalar.cmpi .ne v289 c0_i32_114
  let v291 : BitVec 1 := Scalar.andi v288 v290
  let v277 : BitVec 32 := Scalar.divsi v276 c128_i32_109
  let c1_i32_115 : BitVec 32 := 1#32
  let v292 : BitVec 32 := Scalar.subi v277 c1_i32_115
  let v293 : BitVec 32 := Scalar.select v291 v292 v277
  let c128_i32_116 : BitVec 32 := 128#32
  let v294 : BitVec 32 := Scalar.muli v293 c128_i32_116
  let v295 : Index := Scalar.indexCast v294
  ![9, v295.toNat]

def k0_chk10 (v276 : BitVec 32) : Prop :=
  (∀ a, (k0_off10 v276) a + S1x128.size a ≤ S32x100000.size a)
theorem k0_off10_inb : ∀ (v276 : BitVec 32) (k0_hw10 : k0_chk10 v276), ∀ a, (k0_off10 v276) a + S1x128.size a ≤ S32x100000.size a := fun v276 k0_hw10 => k0_hw10

def k0_off11 (v306 : BitVec 32) : Fin 2 → Nat :=
  let c10_129 : Index := 10#32
  let c0_i32_122 : BitVec 32 := 0#32
  let v308 : BitVec 1 := Scalar.cmpi .sgt v306 c0_i32_122
  let v309 : BitVec 32 := Scalar.extui v308
  let c0_i32_123 : BitVec 32 := 0#32
  let v310 : BitVec 1 := Scalar.cmpi .slt v306 c0_i32_123
  let v311 : BitVec 32 := Scalar.extui v310
  let v312 : BitVec 32 := Scalar.subi v309 v311
  let c128_i32_121 : BitVec 32 := 128#32
  let c0_i32_124 : BitVec 32 := 0#32
  let v313 : BitVec 1 := Scalar.cmpi .sgt c128_i32_121 c0_i32_124
  let v314 : BitVec 32 := Scalar.extui v313
  let c0_i32_125 : BitVec 32 := 0#32
  let v315 : BitVec 1 := Scalar.cmpi .slt c128_i32_121 c0_i32_125
  let v316 : BitVec 32 := Scalar.extui v315
  let v317 : BitVec 32 := Scalar.subi v314 v316
  let v318 : BitVec 1 := Scalar.cmpi .ne v312 v317
  let v319 : BitVec 32 := Scalar.remsi v306 c128_i32_121
  let c0_i32_126 : BitVec 32 := 0#32
  let v320 : BitVec 1 := Scalar.cmpi .ne v319 c0_i32_126
  let v321 : BitVec 1 := Scalar.andi v318 v320
  let v307 : BitVec 32 := Scalar.divsi v306 c128_i32_121
  let c1_i32_127 : BitVec 32 := 1#32
  let v322 : BitVec 32 := Scalar.subi v307 c1_i32_127
  let v323 : BitVec 32 := Scalar.select v321 v322 v307
  let c128_i32_128 : BitVec 32 := 128#32
  let v324 : BitVec 32 := Scalar.muli v323 c128_i32_128
  let v325 : Index := Scalar.indexCast v324
  ![10, v325.toNat]

def k0_chk11 (v306 : BitVec 32) : Prop :=
  (∀ a, (k0_off11 v306) a + S1x128.size a ≤ S32x100000.size a)
theorem k0_off11_inb : ∀ (v306 : BitVec 32) (k0_hw11 : k0_chk11 v306), ∀ a, (k0_off11 v306) a + S1x128.size a ≤ S32x100000.size a := fun v306 k0_hw11 => k0_hw11

def k0_off12 (v336 : BitVec 32) : Fin 2 → Nat :=
  let c11_141 : Index := 11#32
  let c0_i32_134 : BitVec 32 := 0#32
  let v338 : BitVec 1 := Scalar.cmpi .sgt v336 c0_i32_134
  let v339 : BitVec 32 := Scalar.extui v338
  let c0_i32_135 : BitVec 32 := 0#32
  let v340 : BitVec 1 := Scalar.cmpi .slt v336 c0_i32_135
  let v341 : BitVec 32 := Scalar.extui v340
  let v342 : BitVec 32 := Scalar.subi v339 v341
  let c128_i32_133 : BitVec 32 := 128#32
  let c0_i32_136 : BitVec 32 := 0#32
  let v343 : BitVec 1 := Scalar.cmpi .sgt c128_i32_133 c0_i32_136
  let v344 : BitVec 32 := Scalar.extui v343
  let c0_i32_137 : BitVec 32 := 0#32
  let v345 : BitVec 1 := Scalar.cmpi .slt c128_i32_133 c0_i32_137
  let v346 : BitVec 32 := Scalar.extui v345
  let v347 : BitVec 32 := Scalar.subi v344 v346
  let v348 : BitVec 1 := Scalar.cmpi .ne v342 v347
  let v349 : BitVec 32 := Scalar.remsi v336 c128_i32_133
  let c0_i32_138 : BitVec 32 := 0#32
  let v350 : BitVec 1 := Scalar.cmpi .ne v349 c0_i32_138
  let v351 : BitVec 1 := Scalar.andi v348 v350
  let v337 : BitVec 32 := Scalar.divsi v336 c128_i32_133
  let c1_i32_139 : BitVec 32 := 1#32
  let v352 : BitVec 32 := Scalar.subi v337 c1_i32_139
  let v353 : BitVec 32 := Scalar.select v351 v352 v337
  let c128_i32_140 : BitVec 32 := 128#32
  let v354 : BitVec 32 := Scalar.muli v353 c128_i32_140
  let v355 : Index := Scalar.indexCast v354
  ![11, v355.toNat]

def k0_chk12 (v336 : BitVec 32) : Prop :=
  (∀ a, (k0_off12 v336) a + S1x128.size a ≤ S32x100000.size a)
theorem k0_off12_inb : ∀ (v336 : BitVec 32) (k0_hw12 : k0_chk12 v336), ∀ a, (k0_off12 v336) a + S1x128.size a ≤ S32x100000.size a := fun v336 k0_hw12 => k0_hw12

def k0_off13 (v366 : BitVec 32) : Fin 2 → Nat :=
  let c12_153 : Index := 12#32
  let c0_i32_146 : BitVec 32 := 0#32
  let v368 : BitVec 1 := Scalar.cmpi .sgt v366 c0_i32_146
  let v369 : BitVec 32 := Scalar.extui v368
  let c0_i32_147 : BitVec 32 := 0#32
  let v370 : BitVec 1 := Scalar.cmpi .slt v366 c0_i32_147
  let v371 : BitVec 32 := Scalar.extui v370
  let v372 : BitVec 32 := Scalar.subi v369 v371
  let c128_i32_145 : BitVec 32 := 128#32
  let c0_i32_148 : BitVec 32 := 0#32
  let v373 : BitVec 1 := Scalar.cmpi .sgt c128_i32_145 c0_i32_148
  let v374 : BitVec 32 := Scalar.extui v373
  let c0_i32_149 : BitVec 32 := 0#32
  let v375 : BitVec 1 := Scalar.cmpi .slt c128_i32_145 c0_i32_149
  let v376 : BitVec 32 := Scalar.extui v375
  let v377 : BitVec 32 := Scalar.subi v374 v376
  let v378 : BitVec 1 := Scalar.cmpi .ne v372 v377
  let v379 : BitVec 32 := Scalar.remsi v366 c128_i32_145
  let c0_i32_150 : BitVec 32 := 0#32
  let v380 : BitVec 1 := Scalar.cmpi .ne v379 c0_i32_150
  let v381 : BitVec 1 := Scalar.andi v378 v380
  let v367 : BitVec 32 := Scalar.divsi v366 c128_i32_145
  let c1_i32_151 : BitVec 32 := 1#32
  let v382 : BitVec 32 := Scalar.subi v367 c1_i32_151
  let v383 : BitVec 32 := Scalar.select v381 v382 v367
  let c128_i32_152 : BitVec 32 := 128#32
  let v384 : BitVec 32 := Scalar.muli v383 c128_i32_152
  let v385 : Index := Scalar.indexCast v384
  ![12, v385.toNat]

def k0_chk13 (v366 : BitVec 32) : Prop :=
  (∀ a, (k0_off13 v366) a + S1x128.size a ≤ S32x100000.size a)
theorem k0_off13_inb : ∀ (v366 : BitVec 32) (k0_hw13 : k0_chk13 v366), ∀ a, (k0_off13 v366) a + S1x128.size a ≤ S32x100000.size a := fun v366 k0_hw13 => k0_hw13

def k0_off14 (v396 : BitVec 32) : Fin 2 → Nat :=
  let c13_165 : Index := 13#32
  let c0_i32_158 : BitVec 32 := 0#32
  let v398 : BitVec 1 := Scalar.cmpi .sgt v396 c0_i32_158
  let v399 : BitVec 32 := Scalar.extui v398
  let c0_i32_159 : BitVec 32 := 0#32
  let v400 : BitVec 1 := Scalar.cmpi .slt v396 c0_i32_159
  let v401 : BitVec 32 := Scalar.extui v400
  let v402 : BitVec 32 := Scalar.subi v399 v401
  let c128_i32_157 : BitVec 32 := 128#32
  let c0_i32_160 : BitVec 32 := 0#32
  let v403 : BitVec 1 := Scalar.cmpi .sgt c128_i32_157 c0_i32_160
  let v404 : BitVec 32 := Scalar.extui v403
  let c0_i32_161 : BitVec 32 := 0#32
  let v405 : BitVec 1 := Scalar.cmpi .slt c128_i32_157 c0_i32_161
  let v406 : BitVec 32 := Scalar.extui v405
  let v407 : BitVec 32 := Scalar.subi v404 v406
  let v408 : BitVec 1 := Scalar.cmpi .ne v402 v407
  let v409 : BitVec 32 := Scalar.remsi v396 c128_i32_157
  let c0_i32_162 : BitVec 32 := 0#32
  let v410 : BitVec 1 := Scalar.cmpi .ne v409 c0_i32_162
  let v411 : BitVec 1 := Scalar.andi v408 v410
  let v397 : BitVec 32 := Scalar.divsi v396 c128_i32_157
  let c1_i32_163 : BitVec 32 := 1#32
  let v412 : BitVec 32 := Scalar.subi v397 c1_i32_163
  let v413 : BitVec 32 := Scalar.select v411 v412 v397
  let c128_i32_164 : BitVec 32 := 128#32
  let v414 : BitVec 32 := Scalar.muli v413 c128_i32_164
  let v415 : Index := Scalar.indexCast v414
  ![13, v415.toNat]

def k0_chk14 (v396 : BitVec 32) : Prop :=
  (∀ a, (k0_off14 v396) a + S1x128.size a ≤ S32x100000.size a)
theorem k0_off14_inb : ∀ (v396 : BitVec 32) (k0_hw14 : k0_chk14 v396), ∀ a, (k0_off14 v396) a + S1x128.size a ≤ S32x100000.size a := fun v396 k0_hw14 => k0_hw14

def k0_off15 (v426 : BitVec 32) : Fin 2 → Nat :=
  let c14_177 : Index := 14#32
  let c0_i32_170 : BitVec 32 := 0#32
  let v428 : BitVec 1 := Scalar.cmpi .sgt v426 c0_i32_170
  let v429 : BitVec 32 := Scalar.extui v428
  let c0_i32_171 : BitVec 32 := 0#32
  let v430 : BitVec 1 := Scalar.cmpi .slt v426 c0_i32_171
  let v431 : BitVec 32 := Scalar.extui v430
  let v432 : BitVec 32 := Scalar.subi v429 v431
  let c128_i32_169 : BitVec 32 := 128#32
  let c0_i32_172 : BitVec 32 := 0#32
  let v433 : BitVec 1 := Scalar.cmpi .sgt c128_i32_169 c0_i32_172
  let v434 : BitVec 32 := Scalar.extui v433
  let c0_i32_173 : BitVec 32 := 0#32
  let v435 : BitVec 1 := Scalar.cmpi .slt c128_i32_169 c0_i32_173
  let v436 : BitVec 32 := Scalar.extui v435
  let v437 : BitVec 32 := Scalar.subi v434 v436
  let v438 : BitVec 1 := Scalar.cmpi .ne v432 v437
  let v439 : BitVec 32 := Scalar.remsi v426 c128_i32_169
  let c0_i32_174 : BitVec 32 := 0#32
  let v440 : BitVec 1 := Scalar.cmpi .ne v439 c0_i32_174
  let v441 : BitVec 1 := Scalar.andi v438 v440
  let v427 : BitVec 32 := Scalar.divsi v426 c128_i32_169
  let c1_i32_175 : BitVec 32 := 1#32
  let v442 : BitVec 32 := Scalar.subi v427 c1_i32_175
  let v443 : BitVec 32 := Scalar.select v441 v442 v427
  let c128_i32_176 : BitVec 32 := 128#32
  let v444 : BitVec 32 := Scalar.muli v443 c128_i32_176
  let v445 : Index := Scalar.indexCast v444
  ![14, v445.toNat]

def k0_chk15 (v426 : BitVec 32) : Prop :=
  (∀ a, (k0_off15 v426) a + S1x128.size a ≤ S32x100000.size a)
theorem k0_off15_inb : ∀ (v426 : BitVec 32) (k0_hw15 : k0_chk15 v426), ∀ a, (k0_off15 v426) a + S1x128.size a ≤ S32x100000.size a := fun v426 k0_hw15 => k0_hw15

def k0_off16 (v456 : BitVec 32) : Fin 2 → Nat :=
  let c15_189 : Index := 15#32
  let c0_i32_182 : BitVec 32 := 0#32
  let v458 : BitVec 1 := Scalar.cmpi .sgt v456 c0_i32_182
  let v459 : BitVec 32 := Scalar.extui v458
  let c0_i32_183 : BitVec 32 := 0#32
  let v460 : BitVec 1 := Scalar.cmpi .slt v456 c0_i32_183
  let v461 : BitVec 32 := Scalar.extui v460
  let v462 : BitVec 32 := Scalar.subi v459 v461
  let c128_i32_181 : BitVec 32 := 128#32
  let c0_i32_184 : BitVec 32 := 0#32
  let v463 : BitVec 1 := Scalar.cmpi .sgt c128_i32_181 c0_i32_184
  let v464 : BitVec 32 := Scalar.extui v463
  let c0_i32_185 : BitVec 32 := 0#32
  let v465 : BitVec 1 := Scalar.cmpi .slt c128_i32_181 c0_i32_185
  let v466 : BitVec 32 := Scalar.extui v465
  let v467 : BitVec 32 := Scalar.subi v464 v466
  let v468 : BitVec 1 := Scalar.cmpi .ne v462 v467
  let v469 : BitVec 32 := Scalar.remsi v456 c128_i32_181
  let c0_i32_186 : BitVec 32 := 0#32
  let v470 : BitVec 1 := Scalar.cmpi .ne v469 c0_i32_186
  let v471 : BitVec 1 := Scalar.andi v468 v470
  let v457 : BitVec 32 := Scalar.divsi v456 c128_i32_181
  let c1_i32_187 : BitVec 32 := 1#32
  let v472 : BitVec 32 := Scalar.subi v457 c1_i32_187
  let v473 : BitVec 32 := Scalar.select v471 v472 v457
  let c128_i32_188 : BitVec 32 := 128#32
  let v474 : BitVec 32 := Scalar.muli v473 c128_i32_188
  let v475 : Index := Scalar.indexCast v474
  ![15, v475.toNat]

def k0_chk16 (v456 : BitVec 32) : Prop :=
  (∀ a, (k0_off16 v456) a + S1x128.size a ≤ S32x100000.size a)
theorem k0_off16_inb : ∀ (v456 : BitVec 32) (k0_hw16 : k0_chk16 v456), ∀ a, (k0_off16 v456) a + S1x128.size a ≤ S32x100000.size a := fun v456 k0_hw16 => k0_hw16

def k0_off17 (v486 : BitVec 32) : Fin 2 → Nat :=
  let c16_201 : Index := 16#32
  let c0_i32_194 : BitVec 32 := 0#32
  let v488 : BitVec 1 := Scalar.cmpi .sgt v486 c0_i32_194
  let v489 : BitVec 32 := Scalar.extui v488
  let c0_i32_195 : BitVec 32 := 0#32
  let v490 : BitVec 1 := Scalar.cmpi .slt v486 c0_i32_195
  let v491 : BitVec 32 := Scalar.extui v490
  let v492 : BitVec 32 := Scalar.subi v489 v491
  let c128_i32_193 : BitVec 32 := 128#32
  let c0_i32_196 : BitVec 32 := 0#32
  let v493 : BitVec 1 := Scalar.cmpi .sgt c128_i32_193 c0_i32_196
  let v494 : BitVec 32 := Scalar.extui v493
  let c0_i32_197 : BitVec 32 := 0#32
  let v495 : BitVec 1 := Scalar.cmpi .slt c128_i32_193 c0_i32_197
  let v496 : BitVec 32 := Scalar.extui v495
  let v497 : BitVec 32 := Scalar.subi v494 v496
  let v498 : BitVec 1 := Scalar.cmpi .ne v492 v497
  let v499 : BitVec 32 := Scalar.remsi v486 c128_i32_193
  let c0_i32_198 : BitVec 32 := 0#32
  let v500 : BitVec 1 := Scalar.cmpi .ne v499 c0_i32_198
  let v501 : BitVec 1 := Scalar.andi v498 v500
  let v487 : BitVec 32 := Scalar.divsi v486 c128_i32_193
  let c1_i32_199 : BitVec 32 := 1#32
  let v502 : BitVec 32 := Scalar.subi v487 c1_i32_199
  let v503 : BitVec 32 := Scalar.select v501 v502 v487
  let c128_i32_200 : BitVec 32 := 128#32
  let v504 : BitVec 32 := Scalar.muli v503 c128_i32_200
  let v505 : Index := Scalar.indexCast v504
  ![16, v505.toNat]

def k0_chk17 (v486 : BitVec 32) : Prop :=
  (∀ a, (k0_off17 v486) a + S1x128.size a ≤ S32x100000.size a)
theorem k0_off17_inb : ∀ (v486 : BitVec 32) (k0_hw17 : k0_chk17 v486), ∀ a, (k0_off17 v486) a + S1x128.size a ≤ S32x100000.size a := fun v486 k0_hw17 => k0_hw17

def k0_off18 (v516 : BitVec 32) : Fin 2 → Nat :=
  let c17_213 : Index := 17#32
  let c0_i32_206 : BitVec 32 := 0#32
  let v518 : BitVec 1 := Scalar.cmpi .sgt v516 c0_i32_206
  let v519 : BitVec 32 := Scalar.extui v518
  let c0_i32_207 : BitVec 32 := 0#32
  let v520 : BitVec 1 := Scalar.cmpi .slt v516 c0_i32_207
  let v521 : BitVec 32 := Scalar.extui v520
  let v522 : BitVec 32 := Scalar.subi v519 v521
  let c128_i32_205 : BitVec 32 := 128#32
  let c0_i32_208 : BitVec 32 := 0#32
  let v523 : BitVec 1 := Scalar.cmpi .sgt c128_i32_205 c0_i32_208
  let v524 : BitVec 32 := Scalar.extui v523
  let c0_i32_209 : BitVec 32 := 0#32
  let v525 : BitVec 1 := Scalar.cmpi .slt c128_i32_205 c0_i32_209
  let v526 : BitVec 32 := Scalar.extui v525
  let v527 : BitVec 32 := Scalar.subi v524 v526
  let v528 : BitVec 1 := Scalar.cmpi .ne v522 v527
  let v529 : BitVec 32 := Scalar.remsi v516 c128_i32_205
  let c0_i32_210 : BitVec 32 := 0#32
  let v530 : BitVec 1 := Scalar.cmpi .ne v529 c0_i32_210
  let v531 : BitVec 1 := Scalar.andi v528 v530
  let v517 : BitVec 32 := Scalar.divsi v516 c128_i32_205
  let c1_i32_211 : BitVec 32 := 1#32
  let v532 : BitVec 32 := Scalar.subi v517 c1_i32_211
  let v533 : BitVec 32 := Scalar.select v531 v532 v517
  let c128_i32_212 : BitVec 32 := 128#32
  let v534 : BitVec 32 := Scalar.muli v533 c128_i32_212
  let v535 : Index := Scalar.indexCast v534
  ![17, v535.toNat]

def k0_chk18 (v516 : BitVec 32) : Prop :=
  (∀ a, (k0_off18 v516) a + S1x128.size a ≤ S32x100000.size a)
theorem k0_off18_inb : ∀ (v516 : BitVec 32) (k0_hw18 : k0_chk18 v516), ∀ a, (k0_off18 v516) a + S1x128.size a ≤ S32x100000.size a := fun v516 k0_hw18 => k0_hw18

def k0_off19 (v546 : BitVec 32) : Fin 2 → Nat :=
  let c18_225 : Index := 18#32
  let c0_i32_218 : BitVec 32 := 0#32
  let v548 : BitVec 1 := Scalar.cmpi .sgt v546 c0_i32_218
  let v549 : BitVec 32 := Scalar.extui v548
  let c0_i32_219 : BitVec 32 := 0#32
  let v550 : BitVec 1 := Scalar.cmpi .slt v546 c0_i32_219
  let v551 : BitVec 32 := Scalar.extui v550
  let v552 : BitVec 32 := Scalar.subi v549 v551
  let c128_i32_217 : BitVec 32 := 128#32
  let c0_i32_220 : BitVec 32 := 0#32
  let v553 : BitVec 1 := Scalar.cmpi .sgt c128_i32_217 c0_i32_220
  let v554 : BitVec 32 := Scalar.extui v553
  let c0_i32_221 : BitVec 32 := 0#32
  let v555 : BitVec 1 := Scalar.cmpi .slt c128_i32_217 c0_i32_221
  let v556 : BitVec 32 := Scalar.extui v555
  let v557 : BitVec 32 := Scalar.subi v554 v556
  let v558 : BitVec 1 := Scalar.cmpi .ne v552 v557
  let v559 : BitVec 32 := Scalar.remsi v546 c128_i32_217
  let c0_i32_222 : BitVec 32 := 0#32
  let v560 : BitVec 1 := Scalar.cmpi .ne v559 c0_i32_222
  let v561 : BitVec 1 := Scalar.andi v558 v560
  let v547 : BitVec 32 := Scalar.divsi v546 c128_i32_217
  let c1_i32_223 : BitVec 32 := 1#32
  let v562 : BitVec 32 := Scalar.subi v547 c1_i32_223
  let v563 : BitVec 32 := Scalar.select v561 v562 v547
  let c128_i32_224 : BitVec 32 := 128#32
  let v564 : BitVec 32 := Scalar.muli v563 c128_i32_224
  let v565 : Index := Scalar.indexCast v564
  ![18, v565.toNat]

def k0_chk19 (v546 : BitVec 32) : Prop :=
  (∀ a, (k0_off19 v546) a + S1x128.size a ≤ S32x100000.size a)
theorem k0_off19_inb : ∀ (v546 : BitVec 32) (k0_hw19 : k0_chk19 v546), ∀ a, (k0_off19 v546) a + S1x128.size a ≤ S32x100000.size a := fun v546 k0_hw19 => k0_hw19

def k0_off20 (v576 : BitVec 32) : Fin 2 → Nat :=
  let c19_237 : Index := 19#32
  let c0_i32_230 : BitVec 32 := 0#32
  let v578 : BitVec 1 := Scalar.cmpi .sgt v576 c0_i32_230
  let v579 : BitVec 32 := Scalar.extui v578
  let c0_i32_231 : BitVec 32 := 0#32
  let v580 : BitVec 1 := Scalar.cmpi .slt v576 c0_i32_231
  let v581 : BitVec 32 := Scalar.extui v580
  let v582 : BitVec 32 := Scalar.subi v579 v581
  let c128_i32_229 : BitVec 32 := 128#32
  let c0_i32_232 : BitVec 32 := 0#32
  let v583 : BitVec 1 := Scalar.cmpi .sgt c128_i32_229 c0_i32_232
  let v584 : BitVec 32 := Scalar.extui v583
  let c0_i32_233 : BitVec 32 := 0#32
  let v585 : BitVec 1 := Scalar.cmpi .slt c128_i32_229 c0_i32_233
  let v586 : BitVec 32 := Scalar.extui v585
  let v587 : BitVec 32 := Scalar.subi v584 v586
  let v588 : BitVec 1 := Scalar.cmpi .ne v582 v587
  let v589 : BitVec 32 := Scalar.remsi v576 c128_i32_229
  let c0_i32_234 : BitVec 32 := 0#32
  let v590 : BitVec 1 := Scalar.cmpi .ne v589 c0_i32_234
  let v591 : BitVec 1 := Scalar.andi v588 v590
  let v577 : BitVec 32 := Scalar.divsi v576 c128_i32_229
  let c1_i32_235 : BitVec 32 := 1#32
  let v592 : BitVec 32 := Scalar.subi v577 c1_i32_235
  let v593 : BitVec 32 := Scalar.select v591 v592 v577
  let c128_i32_236 : BitVec 32 := 128#32
  let v594 : BitVec 32 := Scalar.muli v593 c128_i32_236
  let v595 : Index := Scalar.indexCast v594
  ![19, v595.toNat]

def k0_chk20 (v576 : BitVec 32) : Prop :=
  (∀ a, (k0_off20 v576) a + S1x128.size a ≤ S32x100000.size a)
theorem k0_off20_inb : ∀ (v576 : BitVec 32) (k0_hw20 : k0_chk20 v576), ∀ a, (k0_off20 v576) a + S1x128.size a ≤ S32x100000.size a := fun v576 k0_hw20 => k0_hw20

def k0_off21 (v606 : BitVec 32) : Fin 2 → Nat :=
  let c20_249 : Index := 20#32
  let c0_i32_242 : BitVec 32 := 0#32
  let v608 : BitVec 1 := Scalar.cmpi .sgt v606 c0_i32_242
  let v609 : BitVec 32 := Scalar.extui v608
  let c0_i32_243 : BitVec 32 := 0#32
  let v610 : BitVec 1 := Scalar.cmpi .slt v606 c0_i32_243
  let v611 : BitVec 32 := Scalar.extui v610
  let v612 : BitVec 32 := Scalar.subi v609 v611
  let c128_i32_241 : BitVec 32 := 128#32
  let c0_i32_244 : BitVec 32 := 0#32
  let v613 : BitVec 1 := Scalar.cmpi .sgt c128_i32_241 c0_i32_244
  let v614 : BitVec 32 := Scalar.extui v613
  let c0_i32_245 : BitVec 32 := 0#32
  let v615 : BitVec 1 := Scalar.cmpi .slt c128_i32_241 c0_i32_245
  let v616 : BitVec 32 := Scalar.extui v615
  let v617 : BitVec 32 := Scalar.subi v614 v616
  let v618 : BitVec 1 := Scalar.cmpi .ne v612 v617
  let v619 : BitVec 32 := Scalar.remsi v606 c128_i32_241
  let c0_i32_246 : BitVec 32 := 0#32
  let v620 : BitVec 1 := Scalar.cmpi .ne v619 c0_i32_246
  let v621 : BitVec 1 := Scalar.andi v618 v620
  let v607 : BitVec 32 := Scalar.divsi v606 c128_i32_241
  let c1_i32_247 : BitVec 32 := 1#32
  let v622 : BitVec 32 := Scalar.subi v607 c1_i32_247
  let v623 : BitVec 32 := Scalar.select v621 v622 v607
  let c128_i32_248 : BitVec 32 := 128#32
  let v624 : BitVec 32 := Scalar.muli v623 c128_i32_248
  let v625 : Index := Scalar.indexCast v624
  ![20, v625.toNat]

def k0_chk21 (v606 : BitVec 32) : Prop :=
  (∀ a, (k0_off21 v606) a + S1x128.size a ≤ S32x100000.size a)
theorem k0_off21_inb : ∀ (v606 : BitVec 32) (k0_hw21 : k0_chk21 v606), ∀ a, (k0_off21 v606) a + S1x128.size a ≤ S32x100000.size a := fun v606 k0_hw21 => k0_hw21

def k0_off22 (v636 : BitVec 32) : Fin 2 → Nat :=
  let c21_261 : Index := 21#32
  let c0_i32_254 : BitVec 32 := 0#32
  let v638 : BitVec 1 := Scalar.cmpi .sgt v636 c0_i32_254
  let v639 : BitVec 32 := Scalar.extui v638
  let c0_i32_255 : BitVec 32 := 0#32
  let v640 : BitVec 1 := Scalar.cmpi .slt v636 c0_i32_255
  let v641 : BitVec 32 := Scalar.extui v640
  let v642 : BitVec 32 := Scalar.subi v639 v641
  let c128_i32_253 : BitVec 32 := 128#32
  let c0_i32_256 : BitVec 32 := 0#32
  let v643 : BitVec 1 := Scalar.cmpi .sgt c128_i32_253 c0_i32_256
  let v644 : BitVec 32 := Scalar.extui v643
  let c0_i32_257 : BitVec 32 := 0#32
  let v645 : BitVec 1 := Scalar.cmpi .slt c128_i32_253 c0_i32_257
  let v646 : BitVec 32 := Scalar.extui v645
  let v647 : BitVec 32 := Scalar.subi v644 v646
  let v648 : BitVec 1 := Scalar.cmpi .ne v642 v647
  let v649 : BitVec 32 := Scalar.remsi v636 c128_i32_253
  let c0_i32_258 : BitVec 32 := 0#32
  let v650 : BitVec 1 := Scalar.cmpi .ne v649 c0_i32_258
  let v651 : BitVec 1 := Scalar.andi v648 v650
  let v637 : BitVec 32 := Scalar.divsi v636 c128_i32_253
  let c1_i32_259 : BitVec 32 := 1#32
  let v652 : BitVec 32 := Scalar.subi v637 c1_i32_259
  let v653 : BitVec 32 := Scalar.select v651 v652 v637
  let c128_i32_260 : BitVec 32 := 128#32
  let v654 : BitVec 32 := Scalar.muli v653 c128_i32_260
  let v655 : Index := Scalar.indexCast v654
  ![21, v655.toNat]

def k0_chk22 (v636 : BitVec 32) : Prop :=
  (∀ a, (k0_off22 v636) a + S1x128.size a ≤ S32x100000.size a)
theorem k0_off22_inb : ∀ (v636 : BitVec 32) (k0_hw22 : k0_chk22 v636), ∀ a, (k0_off22 v636) a + S1x128.size a ≤ S32x100000.size a := fun v636 k0_hw22 => k0_hw22

def k0_off23 (v666 : BitVec 32) : Fin 2 → Nat :=
  let c22_273 : Index := 22#32
  let c0_i32_266 : BitVec 32 := 0#32
  let v668 : BitVec 1 := Scalar.cmpi .sgt v666 c0_i32_266
  let v669 : BitVec 32 := Scalar.extui v668
  let c0_i32_267 : BitVec 32 := 0#32
  let v670 : BitVec 1 := Scalar.cmpi .slt v666 c0_i32_267
  let v671 : BitVec 32 := Scalar.extui v670
  let v672 : BitVec 32 := Scalar.subi v669 v671
  let c128_i32_265 : BitVec 32 := 128#32
  let c0_i32_268 : BitVec 32 := 0#32
  let v673 : BitVec 1 := Scalar.cmpi .sgt c128_i32_265 c0_i32_268
  let v674 : BitVec 32 := Scalar.extui v673
  let c0_i32_269 : BitVec 32 := 0#32
  let v675 : BitVec 1 := Scalar.cmpi .slt c128_i32_265 c0_i32_269
  let v676 : BitVec 32 := Scalar.extui v675
  let v677 : BitVec 32 := Scalar.subi v674 v676
  let v678 : BitVec 1 := Scalar.cmpi .ne v672 v677
  let v679 : BitVec 32 := Scalar.remsi v666 c128_i32_265
  let c0_i32_270 : BitVec 32 := 0#32
  let v680 : BitVec 1 := Scalar.cmpi .ne v679 c0_i32_270
  let v681 : BitVec 1 := Scalar.andi v678 v680
  let v667 : BitVec 32 := Scalar.divsi v666 c128_i32_265
  let c1_i32_271 : BitVec 32 := 1#32
  let v682 : BitVec 32 := Scalar.subi v667 c1_i32_271
  let v683 : BitVec 32 := Scalar.select v681 v682 v667
  let c128_i32_272 : BitVec 32 := 128#32
  let v684 : BitVec 32 := Scalar.muli v683 c128_i32_272
  let v685 : Index := Scalar.indexCast v684
  ![22, v685.toNat]

def k0_chk23 (v666 : BitVec 32) : Prop :=
  (∀ a, (k0_off23 v666) a + S1x128.size a ≤ S32x100000.size a)
theorem k0_off23_inb : ∀ (v666 : BitVec 32) (k0_hw23 : k0_chk23 v666), ∀ a, (k0_off23 v666) a + S1x128.size a ≤ S32x100000.size a := fun v666 k0_hw23 => k0_hw23

def k0_off24 (v696 : BitVec 32) : Fin 2 → Nat :=
  let c23_285 : Index := 23#32
  let c0_i32_278 : BitVec 32 := 0#32
  let v698 : BitVec 1 := Scalar.cmpi .sgt v696 c0_i32_278
  let v699 : BitVec 32 := Scalar.extui v698
  let c0_i32_279 : BitVec 32 := 0#32
  let v700 : BitVec 1 := Scalar.cmpi .slt v696 c0_i32_279
  let v701 : BitVec 32 := Scalar.extui v700
  let v702 : BitVec 32 := Scalar.subi v699 v701
  let c128_i32_277 : BitVec 32 := 128#32
  let c0_i32_280 : BitVec 32 := 0#32
  let v703 : BitVec 1 := Scalar.cmpi .sgt c128_i32_277 c0_i32_280
  let v704 : BitVec 32 := Scalar.extui v703
  let c0_i32_281 : BitVec 32 := 0#32
  let v705 : BitVec 1 := Scalar.cmpi .slt c128_i32_277 c0_i32_281
  let v706 : BitVec 32 := Scalar.extui v705
  let v707 : BitVec 32 := Scalar.subi v704 v706
  let v708 : BitVec 1 := Scalar.cmpi .ne v702 v707
  let v709 : BitVec 32 := Scalar.remsi v696 c128_i32_277
  let c0_i32_282 : BitVec 32 := 0#32
  let v710 : BitVec 1 := Scalar.cmpi .ne v709 c0_i32_282
  let v711 : BitVec 1 := Scalar.andi v708 v710
  let v697 : BitVec 32 := Scalar.divsi v696 c128_i32_277
  let c1_i32_283 : BitVec 32 := 1#32
  let v712 : BitVec 32 := Scalar.subi v697 c1_i32_283
  let v713 : BitVec 32 := Scalar.select v711 v712 v697
  let c128_i32_284 : BitVec 32 := 128#32
  let v714 : BitVec 32 := Scalar.muli v713 c128_i32_284
  let v715 : Index := Scalar.indexCast v714
  ![23, v715.toNat]

def k0_chk24 (v696 : BitVec 32) : Prop :=
  (∀ a, (k0_off24 v696) a + S1x128.size a ≤ S32x100000.size a)
theorem k0_off24_inb : ∀ (v696 : BitVec 32) (k0_hw24 : k0_chk24 v696), ∀ a, (k0_off24 v696) a + S1x128.size a ≤ S32x100000.size a := fun v696 k0_hw24 => k0_hw24

def k0_off25 (v726 : BitVec 32) : Fin 2 → Nat :=
  let c24_297 : Index := 24#32
  let c0_i32_290 : BitVec 32 := 0#32
  let v728 : BitVec 1 := Scalar.cmpi .sgt v726 c0_i32_290
  let v729 : BitVec 32 := Scalar.extui v728
  let c0_i32_291 : BitVec 32 := 0#32
  let v730 : BitVec 1 := Scalar.cmpi .slt v726 c0_i32_291
  let v731 : BitVec 32 := Scalar.extui v730
  let v732 : BitVec 32 := Scalar.subi v729 v731
  let c128_i32_289 : BitVec 32 := 128#32
  let c0_i32_292 : BitVec 32 := 0#32
  let v733 : BitVec 1 := Scalar.cmpi .sgt c128_i32_289 c0_i32_292
  let v734 : BitVec 32 := Scalar.extui v733
  let c0_i32_293 : BitVec 32 := 0#32
  let v735 : BitVec 1 := Scalar.cmpi .slt c128_i32_289 c0_i32_293
  let v736 : BitVec 32 := Scalar.extui v735
  let v737 : BitVec 32 := Scalar.subi v734 v736
  let v738 : BitVec 1 := Scalar.cmpi .ne v732 v737
  let v739 : BitVec 32 := Scalar.remsi v726 c128_i32_289
  let c0_i32_294 : BitVec 32 := 0#32
  let v740 : BitVec 1 := Scalar.cmpi .ne v739 c0_i32_294
  let v741 : BitVec 1 := Scalar.andi v738 v740
  let v727 : BitVec 32 := Scalar.divsi v726 c128_i32_289
  let c1_i32_295 : BitVec 32 := 1#32
  let v742 : BitVec 32 := Scalar.subi v727 c1_i32_295
  let v743 : BitVec 32 := Scalar.select v741 v742 v727
  let c128_i32_296 : BitVec 32 := 128#32
  let v744 : BitVec 32 := Scalar.muli v743 c128_i32_296
  let v745 : Index := Scalar.indexCast v744
  ![24, v745.toNat]

def k0_chk25 (v726 : BitVec 32) : Prop :=
  (∀ a, (k0_off25 v726) a + S1x128.size a ≤ S32x100000.size a)
theorem k0_off25_inb : ∀ (v726 : BitVec 32) (k0_hw25 : k0_chk25 v726), ∀ a, (k0_off25 v726) a + S1x128.size a ≤ S32x100000.size a := fun v726 k0_hw25 => k0_hw25

def k0_off26 (v756 : BitVec 32) : Fin 2 → Nat :=
  let c25_309 : Index := 25#32
  let c0_i32_302 : BitVec 32 := 0#32
  let v758 : BitVec 1 := Scalar.cmpi .sgt v756 c0_i32_302
  let v759 : BitVec 32 := Scalar.extui v758
  let c0_i32_303 : BitVec 32 := 0#32
  let v760 : BitVec 1 := Scalar.cmpi .slt v756 c0_i32_303
  let v761 : BitVec 32 := Scalar.extui v760
  let v762 : BitVec 32 := Scalar.subi v759 v761
  let c128_i32_301 : BitVec 32 := 128#32
  let c0_i32_304 : BitVec 32 := 0#32
  let v763 : BitVec 1 := Scalar.cmpi .sgt c128_i32_301 c0_i32_304
  let v764 : BitVec 32 := Scalar.extui v763
  let c0_i32_305 : BitVec 32 := 0#32
  let v765 : BitVec 1 := Scalar.cmpi .slt c128_i32_301 c0_i32_305
  let v766 : BitVec 32 := Scalar.extui v765
  let v767 : BitVec 32 := Scalar.subi v764 v766
  let v768 : BitVec 1 := Scalar.cmpi .ne v762 v767
  let v769 : BitVec 32 := Scalar.remsi v756 c128_i32_301
  let c0_i32_306 : BitVec 32 := 0#32
  let v770 : BitVec 1 := Scalar.cmpi .ne v769 c0_i32_306
  let v771 : BitVec 1 := Scalar.andi v768 v770
  let v757 : BitVec 32 := Scalar.divsi v756 c128_i32_301
  let c1_i32_307 : BitVec 32 := 1#32
  let v772 : BitVec 32 := Scalar.subi v757 c1_i32_307
  let v773 : BitVec 32 := Scalar.select v771 v772 v757
  let c128_i32_308 : BitVec 32 := 128#32
  let v774 : BitVec 32 := Scalar.muli v773 c128_i32_308
  let v775 : Index := Scalar.indexCast v774
  ![25, v775.toNat]

def k0_chk26 (v756 : BitVec 32) : Prop :=
  (∀ a, (k0_off26 v756) a + S1x128.size a ≤ S32x100000.size a)
theorem k0_off26_inb : ∀ (v756 : BitVec 32) (k0_hw26 : k0_chk26 v756), ∀ a, (k0_off26 v756) a + S1x128.size a ≤ S32x100000.size a := fun v756 k0_hw26 => k0_hw26

def k0_off27 (v786 : BitVec 32) : Fin 2 → Nat :=
  let c26_321 : Index := 26#32
  let c0_i32_314 : BitVec 32 := 0#32
  let v788 : BitVec 1 := Scalar.cmpi .sgt v786 c0_i32_314
  let v789 : BitVec 32 := Scalar.extui v788
  let c0_i32_315 : BitVec 32 := 0#32
  let v790 : BitVec 1 := Scalar.cmpi .slt v786 c0_i32_315
  let v791 : BitVec 32 := Scalar.extui v790
  let v792 : BitVec 32 := Scalar.subi v789 v791
  let c128_i32_313 : BitVec 32 := 128#32
  let c0_i32_316 : BitVec 32 := 0#32
  let v793 : BitVec 1 := Scalar.cmpi .sgt c128_i32_313 c0_i32_316
  let v794 : BitVec 32 := Scalar.extui v793
  let c0_i32_317 : BitVec 32 := 0#32
  let v795 : BitVec 1 := Scalar.cmpi .slt c128_i32_313 c0_i32_317
  let v796 : BitVec 32 := Scalar.extui v795
  let v797 : BitVec 32 := Scalar.subi v794 v796
  let v798 : BitVec 1 := Scalar.cmpi .ne v792 v797
  let v799 : BitVec 32 := Scalar.remsi v786 c128_i32_313
  let c0_i32_318 : BitVec 32 := 0#32
  let v800 : BitVec 1 := Scalar.cmpi .ne v799 c0_i32_318
  let v801 : BitVec 1 := Scalar.andi v798 v800
  let v787 : BitVec 32 := Scalar.divsi v786 c128_i32_313
  let c1_i32_319 : BitVec 32 := 1#32
  let v802 : BitVec 32 := Scalar.subi v787 c1_i32_319
  let v803 : BitVec 32 := Scalar.select v801 v802 v787
  let c128_i32_320 : BitVec 32 := 128#32
  let v804 : BitVec 32 := Scalar.muli v803 c128_i32_320
  let v805 : Index := Scalar.indexCast v804
  ![26, v805.toNat]

def k0_chk27 (v786 : BitVec 32) : Prop :=
  (∀ a, (k0_off27 v786) a + S1x128.size a ≤ S32x100000.size a)
theorem k0_off27_inb : ∀ (v786 : BitVec 32) (k0_hw27 : k0_chk27 v786), ∀ a, (k0_off27 v786) a + S1x128.size a ≤ S32x100000.size a := fun v786 k0_hw27 => k0_hw27

def k0_off28 (v816 : BitVec 32) : Fin 2 → Nat :=
  let c27_333 : Index := 27#32
  let c0_i32_326 : BitVec 32 := 0#32
  let v818 : BitVec 1 := Scalar.cmpi .sgt v816 c0_i32_326
  let v819 : BitVec 32 := Scalar.extui v818
  let c0_i32_327 : BitVec 32 := 0#32
  let v820 : BitVec 1 := Scalar.cmpi .slt v816 c0_i32_327
  let v821 : BitVec 32 := Scalar.extui v820
  let v822 : BitVec 32 := Scalar.subi v819 v821
  let c128_i32_325 : BitVec 32 := 128#32
  let c0_i32_328 : BitVec 32 := 0#32
  let v823 : BitVec 1 := Scalar.cmpi .sgt c128_i32_325 c0_i32_328
  let v824 : BitVec 32 := Scalar.extui v823
  let c0_i32_329 : BitVec 32 := 0#32
  let v825 : BitVec 1 := Scalar.cmpi .slt c128_i32_325 c0_i32_329
  let v826 : BitVec 32 := Scalar.extui v825
  let v827 : BitVec 32 := Scalar.subi v824 v826
  let v828 : BitVec 1 := Scalar.cmpi .ne v822 v827
  let v829 : BitVec 32 := Scalar.remsi v816 c128_i32_325
  let c0_i32_330 : BitVec 32 := 0#32
  let v830 : BitVec 1 := Scalar.cmpi .ne v829 c0_i32_330
  let v831 : BitVec 1 := Scalar.andi v828 v830
  let v817 : BitVec 32 := Scalar.divsi v816 c128_i32_325
  let c1_i32_331 : BitVec 32 := 1#32
  let v832 : BitVec 32 := Scalar.subi v817 c1_i32_331
  let v833 : BitVec 32 := Scalar.select v831 v832 v817
  let c128_i32_332 : BitVec 32 := 128#32
  let v834 : BitVec 32 := Scalar.muli v833 c128_i32_332
  let v835 : Index := Scalar.indexCast v834
  ![27, v835.toNat]

def k0_chk28 (v816 : BitVec 32) : Prop :=
  (∀ a, (k0_off28 v816) a + S1x128.size a ≤ S32x100000.size a)
theorem k0_off28_inb : ∀ (v816 : BitVec 32) (k0_hw28 : k0_chk28 v816), ∀ a, (k0_off28 v816) a + S1x128.size a ≤ S32x100000.size a := fun v816 k0_hw28 => k0_hw28

def k0_off29 (v846 : BitVec 32) : Fin 2 → Nat :=
  let c28_345 : Index := 28#32
  let c0_i32_338 : BitVec 32 := 0#32
  let v848 : BitVec 1 := Scalar.cmpi .sgt v846 c0_i32_338
  let v849 : BitVec 32 := Scalar.extui v848
  let c0_i32_339 : BitVec 32 := 0#32
  let v850 : BitVec 1 := Scalar.cmpi .slt v846 c0_i32_339
  let v851 : BitVec 32 := Scalar.extui v850
  let v852 : BitVec 32 := Scalar.subi v849 v851
  let c128_i32_337 : BitVec 32 := 128#32
  let c0_i32_340 : BitVec 32 := 0#32
  let v853 : BitVec 1 := Scalar.cmpi .sgt c128_i32_337 c0_i32_340
  let v854 : BitVec 32 := Scalar.extui v853
  let c0_i32_341 : BitVec 32 := 0#32
  let v855 : BitVec 1 := Scalar.cmpi .slt c128_i32_337 c0_i32_341
  let v856 : BitVec 32 := Scalar.extui v855
  let v857 : BitVec 32 := Scalar.subi v854 v856
  let v858 : BitVec 1 := Scalar.cmpi .ne v852 v857
  let v859 : BitVec 32 := Scalar.remsi v846 c128_i32_337
  let c0_i32_342 : BitVec 32 := 0#32
  let v860 : BitVec 1 := Scalar.cmpi .ne v859 c0_i32_342
  let v861 : BitVec 1 := Scalar.andi v858 v860
  let v847 : BitVec 32 := Scalar.divsi v846 c128_i32_337
  let c1_i32_343 : BitVec 32 := 1#32
  let v862 : BitVec 32 := Scalar.subi v847 c1_i32_343
  let v863 : BitVec 32 := Scalar.select v861 v862 v847
  let c128_i32_344 : BitVec 32 := 128#32
  let v864 : BitVec 32 := Scalar.muli v863 c128_i32_344
  let v865 : Index := Scalar.indexCast v864
  ![28, v865.toNat]

def k0_chk29 (v846 : BitVec 32) : Prop :=
  (∀ a, (k0_off29 v846) a + S1x128.size a ≤ S32x100000.size a)
theorem k0_off29_inb : ∀ (v846 : BitVec 32) (k0_hw29 : k0_chk29 v846), ∀ a, (k0_off29 v846) a + S1x128.size a ≤ S32x100000.size a := fun v846 k0_hw29 => k0_hw29

def k0_off30 (v876 : BitVec 32) : Fin 2 → Nat :=
  let c29_357 : Index := 29#32
  let c0_i32_350 : BitVec 32 := 0#32
  let v878 : BitVec 1 := Scalar.cmpi .sgt v876 c0_i32_350
  let v879 : BitVec 32 := Scalar.extui v878
  let c0_i32_351 : BitVec 32 := 0#32
  let v880 : BitVec 1 := Scalar.cmpi .slt v876 c0_i32_351
  let v881 : BitVec 32 := Scalar.extui v880
  let v882 : BitVec 32 := Scalar.subi v879 v881
  let c128_i32_349 : BitVec 32 := 128#32
  let c0_i32_352 : BitVec 32 := 0#32
  let v883 : BitVec 1 := Scalar.cmpi .sgt c128_i32_349 c0_i32_352
  let v884 : BitVec 32 := Scalar.extui v883
  let c0_i32_353 : BitVec 32 := 0#32
  let v885 : BitVec 1 := Scalar.cmpi .slt c128_i32_349 c0_i32_353
  let v886 : BitVec 32 := Scalar.extui v885
  let v887 : BitVec 32 := Scalar.subi v884 v886
  let v888 : BitVec 1 := Scalar.cmpi .ne v882 v887
  let v889 : BitVec 32 := Scalar.remsi v876 c128_i32_349
  let c0_i32_354 : BitVec 32 := 0#32
  let v890 : BitVec 1 := Scalar.cmpi .ne v889 c0_i32_354
  let v891 : BitVec 1 := Scalar.andi v888 v890
  let v877 : BitVec 32 := Scalar.divsi v876 c128_i32_349
  let c1_i32_355 : BitVec 32 := 1#32
  let v892 : BitVec 32 := Scalar.subi v877 c1_i32_355
  let v893 : BitVec 32 := Scalar.select v891 v892 v877
  let c128_i32_356 : BitVec 32 := 128#32
  let v894 : BitVec 32 := Scalar.muli v893 c128_i32_356
  let v895 : Index := Scalar.indexCast v894
  ![29, v895.toNat]

def k0_chk30 (v876 : BitVec 32) : Prop :=
  (∀ a, (k0_off30 v876) a + S1x128.size a ≤ S32x100000.size a)
theorem k0_off30_inb : ∀ (v876 : BitVec 32) (k0_hw30 : k0_chk30 v876), ∀ a, (k0_off30 v876) a + S1x128.size a ≤ S32x100000.size a := fun v876 k0_hw30 => k0_hw30

def k0_off31 (v906 : BitVec 32) : Fin 2 → Nat :=
  let c30_369 : Index := 30#32
  let c0_i32_362 : BitVec 32 := 0#32
  let v908 : BitVec 1 := Scalar.cmpi .sgt v906 c0_i32_362
  let v909 : BitVec 32 := Scalar.extui v908
  let c0_i32_363 : BitVec 32 := 0#32
  let v910 : BitVec 1 := Scalar.cmpi .slt v906 c0_i32_363
  let v911 : BitVec 32 := Scalar.extui v910
  let v912 : BitVec 32 := Scalar.subi v909 v911
  let c128_i32_361 : BitVec 32 := 128#32
  let c0_i32_364 : BitVec 32 := 0#32
  let v913 : BitVec 1 := Scalar.cmpi .sgt c128_i32_361 c0_i32_364
  let v914 : BitVec 32 := Scalar.extui v913
  let c0_i32_365 : BitVec 32 := 0#32
  let v915 : BitVec 1 := Scalar.cmpi .slt c128_i32_361 c0_i32_365
  let v916 : BitVec 32 := Scalar.extui v915
  let v917 : BitVec 32 := Scalar.subi v914 v916
  let v918 : BitVec 1 := Scalar.cmpi .ne v912 v917
  let v919 : BitVec 32 := Scalar.remsi v906 c128_i32_361
  let c0_i32_366 : BitVec 32 := 0#32
  let v920 : BitVec 1 := Scalar.cmpi .ne v919 c0_i32_366
  let v921 : BitVec 1 := Scalar.andi v918 v920
  let v907 : BitVec 32 := Scalar.divsi v906 c128_i32_361
  let c1_i32_367 : BitVec 32 := 1#32
  let v922 : BitVec 32 := Scalar.subi v907 c1_i32_367
  let v923 : BitVec 32 := Scalar.select v921 v922 v907
  let c128_i32_368 : BitVec 32 := 128#32
  let v924 : BitVec 32 := Scalar.muli v923 c128_i32_368
  let v925 : Index := Scalar.indexCast v924
  ![30, v925.toNat]

def k0_chk31 (v906 : BitVec 32) : Prop :=
  (∀ a, (k0_off31 v906) a + S1x128.size a ≤ S32x100000.size a)
theorem k0_off31_inb : ∀ (v906 : BitVec 32) (k0_hw31 : k0_chk31 v906), ∀ a, (k0_off31 v906) a + S1x128.size a ≤ S32x100000.size a := fun v906 k0_hw31 => k0_hw31

def k0_off32 (v936 : BitVec 32) : Fin 2 → Nat :=
  let c31_381 : Index := 31#32
  let c0_i32_374 : BitVec 32 := 0#32
  let v938 : BitVec 1 := Scalar.cmpi .sgt v936 c0_i32_374
  let v939 : BitVec 32 := Scalar.extui v938
  let c0_i32_375 : BitVec 32 := 0#32
  let v940 : BitVec 1 := Scalar.cmpi .slt v936 c0_i32_375
  let v941 : BitVec 32 := Scalar.extui v940
  let v942 : BitVec 32 := Scalar.subi v939 v941
  let c128_i32_373 : BitVec 32 := 128#32
  let c0_i32_376 : BitVec 32 := 0#32
  let v943 : BitVec 1 := Scalar.cmpi .sgt c128_i32_373 c0_i32_376
  let v944 : BitVec 32 := Scalar.extui v943
  let c0_i32_377 : BitVec 32 := 0#32
  let v945 : BitVec 1 := Scalar.cmpi .slt c128_i32_373 c0_i32_377
  let v946 : BitVec 32 := Scalar.extui v945
  let v947 : BitVec 32 := Scalar.subi v944 v946
  let v948 : BitVec 1 := Scalar.cmpi .ne v942 v947
  let v949 : BitVec 32 := Scalar.remsi v936 c128_i32_373
  let c0_i32_378 : BitVec 32 := 0#32
  let v950 : BitVec 1 := Scalar.cmpi .ne v949 c0_i32_378
  let v951 : BitVec 1 := Scalar.andi v948 v950
  let v937 : BitVec 32 := Scalar.divsi v936 c128_i32_373
  let c1_i32_379 : BitVec 32 := 1#32
  let v952 : BitVec 32 := Scalar.subi v937 c1_i32_379
  let v953 : BitVec 32 := Scalar.select v951 v952 v937
  let c128_i32_380 : BitVec 32 := 128#32
  let v954 : BitVec 32 := Scalar.muli v953 c128_i32_380
  let v955 : Index := Scalar.indexCast v954
  ![31, v955.toNat]

def k0_chk32 (v936 : BitVec 32) : Prop :=
  (∀ a, (k0_off32 v936) a + S1x128.size a ≤ S32x100000.size a)
theorem k0_off32_inb : ∀ (v936 : BitVec 32) (k0_hw32 : k0_chk32 v936), ∀ a, (k0_off32 v936) a + S1x128.size a ≤ S32x100000.size a := fun v936 k0_hw32 => k0_hw32

def k0_cond3 (i : grid0.Coords) : BitVec 1 :=
  let arg0 : BitVec 32 := BitVec.ofNat 32 (i 0).val
  let c31_i32 : BitVec 32 := 31#32
  let v1011 : BitVec 1 := Scalar.cmpi .eq arg0 c31_i32
  let v1012 : BitVec 32 := Scalar.extui v1011
  let c0_i32_396 : BitVec 32 := 0#32
  let v1013 : BitVec 1 := Scalar.cmpi .ne v1012 c0_i32_396
  v1013

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x100000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .smem S32x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .smem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S1024x100000 : Shape := ⟨2, ![1024, 100000]⟩
abbrev S1024 : Shape := ⟨1, ![1024]⟩
abbrev S1024x1 : Shape := ⟨2, ![1024, 1]⟩
abbrev S1x100000 : Shape := ⟨2, ![1, 100000]⟩
abbrev S1024x5 : Shape := ⟨2, ![1024, 5]⟩
abbrev S_ : Shape := ⟨0, ![]⟩
abbrev S1024x5x1 : Shape := ⟨3, ![1024, 5, 1]⟩
abbrev S1024x5x2 : Shape := ⟨3, ![1024, 5, 2]⟩
abbrev S1024x99999 : Shape := ⟨2, ![1024, 99999]⟩

abbrev nBuf : Space → Nat
  | .hbm => 79
  | .vmem => 0
  | .smem => 0
  | _ => 0

abbrev bufTy : (tb : Table) → Fin (tcTables nBuf tb) → BufTy
  | .hbm, ⟨0, _⟩ => ⟨S1024x100000, .f32⟩
  | .hbm, ⟨1, _⟩ => ⟨S1024, .i32⟩
  | .hbm, ⟨2, _⟩ => ⟨S1024x1, .i32⟩
  | .hbm, ⟨3, _⟩ => ⟨S1x100000, .i32⟩
  | .hbm, ⟨4, _⟩ => ⟨S1024x100000, .i32⟩
  | .hbm, ⟨5, _⟩ => ⟨S1024x100000, .i32⟩
  | .hbm, ⟨6, _⟩ => ⟨S1024x100000, .i1⟩
  | .hbm, ⟨7, _⟩ => ⟨S1024x100000, .f32⟩
  | .hbm, ⟨8, _⟩ => ⟨S1024x5, .f32⟩
  | .hbm, ⟨9, _⟩ => ⟨S1024x5, .i32⟩
  | .hbm, ⟨10, _⟩ => ⟨S_, .f32⟩
  | .hbm, ⟨11, _⟩ => ⟨S1024x100000, .f32⟩
  | .hbm, ⟨12, _⟩ => ⟨S1024, .i32⟩
  | .hbm, ⟨13, _⟩ => ⟨S1024x1, .i32⟩
  | .hbm, ⟨14, _⟩ => ⟨S_, .i32⟩
  | .hbm, ⟨15, _⟩ => ⟨S1024x1, .i32⟩
  | .hbm, ⟨16, _⟩ => ⟨S1024x1, .i1⟩
  | .hbm, ⟨17, _⟩ => ⟨S_, .i32⟩
  | .hbm, ⟨18, _⟩ => ⟨S1024x1, .i32⟩
  | .hbm, ⟨19, _⟩ => ⟨S1024x1, .i32⟩
  | .hbm, ⟨20, _⟩ => ⟨S1024x1, .i32⟩
  | .hbm, ⟨21, _⟩ => ⟨S_, .i32⟩
  | .hbm, ⟨22, _⟩ => ⟨S1024x5, .i32⟩
  | .hbm, ⟨23, _⟩ => ⟨S1024x5, .i1⟩
  | .hbm, ⟨24, _⟩ => ⟨S_, .i32⟩
  | .hbm, ⟨25, _⟩ => ⟨S1024x5, .i32⟩
  | .hbm, ⟨26, _⟩ => ⟨S1024x5, .i32⟩
  | .hbm, ⟨27, _⟩ => ⟨S1024x5, .i32⟩
  | .hbm, ⟨28, _⟩ => ⟨S1024x5, .i32⟩
  | .hbm, ⟨29, _⟩ => ⟨S1024x5x1, .i32⟩
  | .hbm, ⟨30, _⟩ => ⟨S1024x5x1, .i32⟩
  | .hbm, ⟨31, _⟩ => ⟨S1024x5x2, .i32⟩
  | .hbm, ⟨32, _⟩ => ⟨S_, .f32⟩
  | .hbm, ⟨33, _⟩ => ⟨S1024x5, .f32⟩
  | .hbm, ⟨34, _⟩ => ⟨S1024x100000, .f32⟩
  | .hbm, ⟨35, _⟩ => ⟨S1024x99999, .f32⟩
  | .hbm, ⟨36, _⟩ => ⟨S1024x99999, .f32⟩
  | .hbm, ⟨37, _⟩ => ⟨S1024x99999, .f32⟩
  | .hbm, ⟨38, _⟩ => ⟨S_, .f32⟩
  | .hbm, ⟨39, _⟩ => ⟨S1024, .f32⟩
  | .hbm, ⟨40, _⟩ => ⟨S_, .f32⟩
  | .hbm, ⟨41, _⟩ => ⟨S1024x99999, .f32⟩
  | .hbm, ⟨42, _⟩ => ⟨S1024x99999, .f32⟩
  | .hbm, ⟨43, _⟩ => ⟨S1024x99999, .f32⟩
  | .hbm, ⟨44, _⟩ => ⟨S_, .f32⟩
  | .hbm, ⟨45, _⟩ => ⟨S1024, .f32⟩
  | .hbm, ⟨46, _⟩ => ⟨S_, .f32⟩
  | .hbm, ⟨47, _⟩ => ⟨S1024x99999, .f32⟩
  | .hbm, ⟨48, _⟩ => ⟨S1024x99999, .f32⟩
  | .hbm, ⟨49, _⟩ => ⟨S1024x99999, .f32⟩
  | .hbm, ⟨50, _⟩ => ⟨S_, .f32⟩
  | .hbm, ⟨51, _⟩ => ⟨S1024, .f32⟩
  | .hbm, ⟨52, _⟩ => ⟨S_, .f32⟩
  | .hbm, ⟨53, _⟩ => ⟨S1024, .f32⟩
  | .hbm, ⟨54, _⟩ => ⟨S1024, .f32⟩
  | .hbm, ⟨55, _⟩ => ⟨S1024, .f32⟩
  | .hbm, ⟨56, _⟩ => ⟨S1024, .f32⟩
  | .hbm, ⟨57, _⟩ => ⟨S_, .f32⟩
  | .hbm, ⟨58, _⟩ => ⟨S1024, .f32⟩
  | .hbm, ⟨59, _⟩ => ⟨S1024, .i1⟩
  | .hbm, ⟨60, _⟩ => ⟨S_, .f32⟩
  | .hbm, ⟨61, _⟩ => ⟨S1024, .f32⟩
  | .hbm, ⟨62, _⟩ => ⟨S1024, .f32⟩
  | .hbm, ⟨63, _⟩ => ⟨S_, .f32⟩
  | .hbm, ⟨64, _⟩ => ⟨S1024, .f32⟩
  | .hbm, ⟨65, _⟩ => ⟨S1024, .i1⟩
  | .hbm, ⟨66, _⟩ => ⟨S_, .f32⟩
  | .hbm, ⟨67, _⟩ => ⟨S_, .f32⟩
  | .hbm, ⟨68, _⟩ => ⟨S1024, .f32⟩
  | .hbm, ⟨69, _⟩ => ⟨S1024, .f32⟩
  | .hbm, ⟨70, _⟩ => ⟨S1024, .f32⟩
  | .hbm, ⟨71, _⟩ => ⟨S_, .f32⟩
  | .hbm, ⟨72, _⟩ => ⟨S_, .f32⟩
  | .hbm, ⟨73, _⟩ => ⟨S1024, .f32⟩
  | .hbm, ⟨74, _⟩ => ⟨S1024, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | _, _ => ⟨S1024x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_v0 : Ref sig .tc := ⟨.hbm, 7, rfl⟩
abbrev main_values : Ref sig .tc := ⟨.hbm, 8, rfl⟩
abbrev main_indices : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c_1 : Ref sig .tc := ⟨.hbm, 21, rfl⟩
abbrev main_v9 : Ref sig .tc := ⟨.hbm, 22, rfl⟩
abbrev main_v10 : Ref sig .tc := ⟨.hbm, 23, rfl⟩
abbrev main_c_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_cst_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_6 : Ref sig .tc := ⟨.hbm, 44, rfl⟩
abbrev main_v27 : Ref sig .tc := ⟨.hbm, 45, rfl⟩
abbrev main_cst_7 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_8 : Ref sig .tc := ⟨.hbm, 50, rfl⟩
abbrev main_v31 : Ref sig .tc := ⟨.hbm, 51, rfl⟩
abbrev main_cst_9 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_10 : Ref sig .tc := ⟨.hbm, 57, rfl⟩
abbrev main_v36 : Ref sig .tc := ⟨.hbm, 58, rfl⟩
abbrev main_v37 : Ref sig .tc := ⟨.hbm, 59, rfl⟩
abbrev main_cst_11 : Ref sig .tc := ⟨.hbm, 60, rfl⟩
abbrev main_v38 : Ref sig .tc := ⟨.hbm, 61, rfl⟩
abbrev main_v39 : Ref sig .tc := ⟨.hbm, 62, rfl⟩
abbrev main_cst_12 : Ref sig .tc := ⟨.hbm, 63, rfl⟩
abbrev main_v40 : Ref sig .tc := ⟨.hbm, 64, rfl⟩
abbrev main_v41 : Ref sig .tc := ⟨.hbm, 65, rfl⟩
abbrev main_cst_13 : Ref sig .tc := ⟨.hbm, 66, rfl⟩
abbrev main_call1_v0 : Ref sig .tc := ⟨.hbm, 67, rfl⟩
abbrev main_call1_v1 : Ref sig .tc := ⟨.hbm, 68, rfl⟩
abbrev main_v42 : Ref sig .tc := ⟨.hbm, 69, rfl⟩
abbrev main_v43 : Ref sig .tc := ⟨.hbm, 70, rfl⟩
abbrev main_cst_14 : Ref sig .tc := ⟨.hbm, 71, rfl⟩
abbrev main_call2_v0 : Ref sig .tc := ⟨.hbm, 72, rfl⟩
abbrev main_call2_v1 : Ref sig .tc := ⟨.hbm, 73, rfl⟩
abbrev main_v44 : Ref sig .tc := ⟨.hbm, 74, rfl⟩
abbrev main_cst_15 : Ref sig .tc := ⟨.hbm, 75, rfl⟩
abbrev main_v45 : Ref sig .tc := ⟨.hbm, 76, rfl⟩
abbrev main_cst_16 : Ref sig .tc := ⟨.hbm, 77, rfl⟩
abbrev main_v46 : Ref sig .tc := ⟨.hbm, 78, rfl⟩

abbrev nD : Nat := 1
abbrev τ : Topo := Topo.v7x

variable {F : FTy → Type} [FloatOps F]
-- ==== Proof.Tile.lean ====
/-
  The 128-lane tile a label lies in: the kernel computes the tile's first column from the label's word by a floor
  division and a multiplication, both on 32-bit words.
-/
module

public import Idealize.ShloMosaic.PureOps
public import Idealize.ShloMosaic.Lib.Routing.Words

@[expose] public section

namespace Cert.TopFive

open Idealize.ShloMosaic Idealize.ShloMosaic.Routing

/-- The first column of the tile a label lies in, as the kernel computes it: the label floor-divided by 128 (a
    quotient, lowered by one when the signs differ and a remainder is left), times 128. -/
def tileBase (v : BitVec 32) : BitVec 32 :=
  Scalar.muli
    (Scalar.select
      (Scalar.andi
        (Scalar.cmpi .ne (Scalar.subi (Scalar.extui (Scalar.cmpi .sgt v 0#32)) (Scalar.extui (Scalar.cmpi .slt v 0#32)))
          (Scalar.subi (Scalar.extui (Scalar.cmpi .sgt 128#32 0#32)) (Scalar.extui (Scalar.cmpi .slt 128#32 0#32))))
        (Scalar.cmpi .ne (Scalar.remsi v 128#32) 0#32))
      (Scalar.subi (Scalar.divsi v 128#32) 1#32) (Scalar.divsi v 128#32))
    128#32

/-- For a label that is no negative number the tile's first column is the label rounded down to a multiple of 128. -/
theorem tileBase_eq {n : ℕ} (h : n < 2 ^ 31) : tileBase (BitVec.ofNat 32 n) = BitVec.ofNat 32 (n / 128 * 128) := by
  have hd : Scalar.divsi (BitVec.ofNat 32 n) 128#32 = BitVec.ofNat 32 (n / 128) := divsi_word .scalar h (by omega) (by omega)
  have hr : Scalar.remsi (BitVec.ofNat 32 n) 128#32 = BitVec.ofNat 32 (n % 128) := remsi_word .scalar h (by omega) (by omega)
  have hs : Scalar.andi
        (Scalar.cmpi .ne (Scalar.subi (Scalar.extui (Scalar.cmpi .sgt (BitVec.ofNat 32 n) 0#32) : BitVec 32)
            (Scalar.extui (Scalar.cmpi .slt (BitVec.ofNat 32 n) 0#32)))
          (Scalar.subi (Scalar.extui (Scalar.cmpi .sgt 128#32 0#32)) (Scalar.extui (Scalar.cmpi .slt 128#32 0#32))))
        (Scalar.cmpi .ne (BitVec.ofNat 32 (n % 128)) 0#32) = 0#1 := by
    have hlt : Scalar.cmpi .slt (BitVec.ofNat 32 n) 0#32 = 0#1 := by
      show BitVec.ofBool _ = _
      have : (BitVec.ofNat 32 n).toInt = n := by
        rw [BitVec.toInt_eq_toNat_of_lt] <;> rw [BitVec.toNat_ofNat] <;> omega
      have hn : ¬ ((n : ℤ) < 0) := by omega
      simp only [BitVec.slt, this]
      simp [hn]
    rcases Nat.eq_zero_or_pos n with h0 | h0
    · subst h0; decide
    · have hgt : Scalar.cmpi .sgt (BitVec.ofNat 32 n) 0#32 = 1#1 := by
        show BitVec.ofBool _ = _
        have : (BitVec.ofNat 32 n).toInt = n := by
          rw [BitVec.toInt_eq_toNat_of_lt] <;> rw [BitVec.toNat_ofNat] <;> omega
        simp only [BitVec.slt, this]
        simp [h0]
      rw [hlt, hgt]
      show (0#1 : BitVec 1) &&& _ = 0#1
      exact BitVec.zero_and
  unfold tileBase
  rw [hd, hr, hs]
  show BitVec.ofNat 32 (n / 128) * 128#32 = _
  rw [show (128#32 : BitVec 32) = BitVec.ofNat 32 128 from rfl, ← BitVec.ofNat_mul]

/-- The same for a word read as a natural number. -/
theorem tileBase_toNat {v : BitVec 32} (h : v.toNat < 2 ^ 31) : (tileBase v).toNat = v.toNat / 128 * 128 := by
  have e : v = BitVec.ofNat 32 v.toNat := by simp
  rw [e, tileBase_eq h, BitVec.toNat_ofNat, BitVec.toNat_ofNat]
  omega

/-- The tile of a label below 99968 lies inside the block of 32 rows and 100000 columns, in every row. -/
theorem tile_inside (r : ℕ) (hr : r < 32) {v : BitVec 32} (hv : v.toNat < 99968) :
    ∀ a : Fin 2, (![r, (Scalar.indexCast (tileBase v)).toNat] : Fin 2 → ℕ) a + (![1, 128] : Fin 2 → ℕ) a ≤ (![32, 100000] : Fin 2 → ℕ) a := by
  have e : (Scalar.indexCast (tileBase v)).toNat = (tileBase v).toNat := rfl
  intro a
  rw [e, tileBase_toNat (by omega)]
  fin_cases a
  · show r + 1 ≤ 32; omega
  · show v.toNat / 128 * 128 + 128 ≤ 100000; omega

end Cert.TopFive
-- ==== Proof.Labels.lean ====
/-
  The certificate's precondition says of every label that it lies from 0 up to 99967. From it: the 32 side
  conditions the body assumes at every grid point (each row's tile lies inside the block), for the program read at
  bit patterns and for the one read at extended reals.
-/
module

public import proofs.«01_k».proof.Defs
public import proofs.«01_k».proof.Proof.Tile
public import proofs.«01_k».proof.Proof.Gen.Kernel.Frame
public import proofs.«01_k».proof.Proof.Gen.KernelIdeal.Frame
public import proofs.«01_k».proof.Proof.Gen.Pre_labels_read_inside

@[expose] public section

noncomputable section

namespace Cert.TopFive

open Idealize.ShloMosaic Idealize.ShloMosaic.TcCoe

/-- The printed precondition, decoded at one label. -/
theorem label_bound {F : FTy → Type} [FloatOps F] [Cert.Pre_labels_read_inside.Facts]
    (x0 : FVec F ⟨2, ![1024, 100000]⟩ .f32) (x1 : IVec ⟨1, ![1024]⟩ 32)
    (h : Cert.Pre_labels_read_inside.fn x0 x1 = fun _ => 1#1) (i : (⟨1, ![1024]⟩ : Shape).Idx) : (x1 i).toNat < 99968 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have e := congrFun h i
  simp only [Pre_labels_read_inside.fn, andi, cmpi, broadcastInDim, constantI, IntOp.cmpi, andi_ofBool, ofBool_eq_one,
    Bool.and_eq_true] at e
  obtain ⟨hge, hlt⟩ := e
  simp only [BitVec.sle, BitVec.slt, decide_eq_true_eq, BitVec.toInt, BitVec.toNat_ofNat] at hge hlt
  omega

end Cert.TopFive

namespace Cert.Kernel.Labels

open Idealize.ShloMosaic Idealize.ShloMosaic.TcCoe Cert.Kernel Cert.Kernel.Gen Cert.TopFive

variable {F : FTy → Type} [FloatOps F] (m : (ℓ : Loc nD τ sig) → Buf (Elt F) ℓ)

/-- The label column the region finds is the label vector, one label per row. -/
theorem V_labels (c : Dev nD) : V m c main_v0 = shapeCast S1024x1 (m ((c : Thread nD τ).loc main_arg1)) shapeCasts_S1024_S1024x1 := by
  unfold V V0
  simp only [hostOps0, List.flatten_cons, List.flatten_nil, List.append_nil]
  after_results
  rfl

/-- Every label bounded bounds every word of the label blocks. -/
theorem block_bound (hb : ∀ (c : Dev nD) i, (m ((c : Thread nD τ).loc main_arg1) i).toNat < 99968) (c : Dev nD) (t : Fin cfg0.N) (i) :
    (iblk m c 2 t i).toNat < 99968 := by
  unfold iblk
  rw [View.read_apply, cast_eq]
  show (V m c main_v0 _).toNat < 99968
  rw [V_labels]
  exact hb c _

/-- Every label bounded: every side condition the body assumes holds. -/
theorem hyps (hb : ∀ (c : Dev nD) i, (m ((c : Thread nD τ).loc main_arg1) i).toNat < 99968) : Hyps m := by
  apply Hyps.of <;> intro c t <;>
    exact tile_inside _ (by decide) (by rw [View.readAt_apply, Memref.IsWhole.read_unread]; exact block_bound m hb c t _)

end Cert.Kernel.Labels

namespace Cert.KernelIdeal.Labels

open Idealize.ShloMosaic Idealize.ShloMosaic.TcCoe Cert.KernelIdeal Cert.KernelIdeal.Gen Cert.TopFive

variable {F : FTy → Type} [FloatOps F] (m : (ℓ : Loc nD τ sig) → Buf (Elt F) ℓ)

/-- The label column the region finds is the label vector, one label per row. -/
theorem V_labels (c : Dev nD) : V m c main_v0 = shapeCast S1024x1 (m ((c : Thread nD τ).loc main_arg1)) shapeCasts_S1024_S1024x1 := by
  unfold V V0
  simp only [hostOps0, List.flatten_cons, List.flatten_nil, List.append_nil]
  after_results
  rfl

/-- Every label bounded bounds every word of the label blocks. -/
theorem block_bound (hb : ∀ (c : Dev nD) i, (m ((c : Thread nD τ).loc main_arg1) i).toNat < 99968) (c : Dev nD) (t : Fin cfg0.N) (i) :
    (iblk m c 2 t i).toNat < 99968 := by
  unfold iblk
  rw [View.read_apply, cast_eq]
  show (V m c main_v0 _).toNat < 99968
  rw [V_labels]
  exact hb c _

/-- Every label bounded: every side condition the body assumes holds. -/
theorem hyps (hb : ∀ (c : Dev nD) i, (m ((c : Thread nD τ).loc main_arg1) i).toNat < 99968) : Hyps m := by
  apply Hyps.of <;> intro c t <;>
    exact tile_inside _ (by decide) (by rw [View.readAt_apply, Memref.IsWhole.read_unread]; exact block_bound m hb c t _)

end Cert.KernelIdeal.Labels

end
-- ==== Proof.Block.lean ====
/-
  What one grid point of the kernel computes, in one closed term: of the block of 32 rows it holds (`x0`), the labels
  as a column (`x1`) and the same labels as scalars (`x2`), the sum of the 32 rows' scores. Then what each case of the
  body leaves in the scratch cell and in the output: the block's sum at the first point, the cell plus the block's sum
  at every other.
-/
module

public import proofs.«01_k».proof.Proof.Tile
public import proofs.«01_k».proof.Proof.Gen.KernelIdeal.Frame
public import Idealize.ShloMosaic.Lib.Tactic
public import Idealize.ShloMosaic.Lib.Pipeline.ValueKit.Tiles
public import Idealize.ShloMosaic.Lib.ValueIdxCore

@[expose] public section

set_option maxRecDepth 65536

noncomputable section

namespace Cert.KernelIdeal.Block

open Idealize.ShloMosaic Idealize.ShloMosaic.TcCoe Idealize.ShloMosaic.ValueIdx Cert.KernelIdeal Cert.KernelIdeal.Gen Cert.TopFive

variable {F : FTy → Type} [FloatOps F]

private theorem hz : (![0] : Fin 1 → Nat) = fun _ => 0 := funext fun a => match a with | ⟨0, _⟩ => rfl

private theorem hz2 : (![0, 0] : Fin 2 → Nat) = fun _ => 0 := funext fun a => match a with | ⟨0, _⟩ => rfl | ⟨1, _⟩ => rfl

/-- The 128 entries of row `r` of a block from column `b` on. -/
def tileAt (x0 : Vec F S32x100000 .f32) (r b : Nat) : Vec F S1x128 .f32 := fun j =>
  x0 (ix2 (⟨r % 32, Nat.mod_lt _ (by decide)⟩ : Fin 32) (⟨(b + (j 1).val) % 100000, Nat.mod_lt _ (by decide)⟩ : Fin 100000))

/-- The label of row `r` of a block, read as a scalar. -/
def wordAt (x2 : Vec F S32x1 .i32) (r : Nat) : BitVec 32 :=
  x2 (ix2 (⟨r % 32, Nat.mod_lt _ (by decide)⟩ : Fin 32) (0 : Fin 1))

/-- A load of one row's 128 lanes from the block. -/
theorem tile_read (a1 : Memref sig .tc .vmem S32x100000 .f32) (h1 : a1.IsWhole) (x0 : Vec F S32x100000 .f32)
    (r b : Nat) (h) :
    View.readAt (Elt F) a1.view (Rect.unit (s := S32x100000) ![r, b] ![1, 128] h).toLoadRect (h1.unread x0) = tileAt x0 r b := by
  rw [View.readAt_eq_ld, Memref.IsWhole.read_unread]
  funext j
  have e0 : r + 1 ≤ 32 := h 0
  have e1 : b + 128 ≤ 100000 := h 1
  have j0 : (j 0).val < 1 := (j 0).isLt
  have j1 : (j 1).val < 128 := (j 1).isLt
  refine View.ld_unit_apply_of x0 _ _ h j _ fun a => ?_
  match a with
  | ⟨0, _⟩ => show r % 32 = r + (j 0).val; omega
  | ⟨1, _⟩ => show (b + (j 1).val) % 100000 = b + (j 1).val; omega

/-- A load of one label from the scalar block. -/
theorem word_read (a3 : Memref sig .tc .smem S32x1 .i32) (h3 : a3.IsWhole) (x2 : Vec F S32x1 .i32)
    (r : Nat) (h) (hp) :
    View.readAt (Elt F) a3.view (Rect.unit (s := S32x1) ![r, 0] ![1, 1] h).toLoadRect (h3.unread x2) (Shape.Idx.first hp) = wordAt x2 r := by
  rw [View.readAt_eq_ld, Memref.IsWhole.read_unread]
  have e0 : r + 1 ≤ 32 := h 0
  refine View.ld_unit_apply_of x2 _ _ h _ _ fun a => ?_
  match a with
  | ⟨0, _⟩ => show r % 32 = r + 0; omega
  | ⟨1, _⟩ => rfl

/-- The whole block of rows, loaded. -/
theorem rows_read (a1 : Memref sig .tc .vmem S32x100000 .f32) (h1 : a1.IsWhole) (x0 : Vec F S32x100000 .f32) (h) :
    View.readAt (Elt F) a1.view (Rect.unit (s := S32x100000) ![0, 0] ![32, 100000] h).toLoadRect (h1.unread x0) = x0 := by
  rw [View.readAt_eq_ld, Memref.IsWhole.read_unread]
  exact View.ld_unit_zero (funext fun a => match a with | ⟨0, _⟩ => rfl | ⟨1, _⟩ => rfl) h x0

/-- The whole column of labels, loaded. -/
theorem column_read (a2 : Memref sig .tc .vmem S32x1 .i32) (h2 : a2.IsWhole) (x1 : Vec F S32x1 .i32) (h) :
    View.readAt (Elt F) a2.view (Rect.unit (s := S32x1) ![0, 0] ![32, 1] h).toLoadRect (h2.unread x1) = x1 := by
  rw [View.readAt_eq_ld, Memref.IsWhole.read_unread]
  exact View.ld_unit_zero (funext fun a => match a with | ⟨0, _⟩ => rfl | ⟨1, _⟩ => rfl) h x1

/-- The scratch cell, loaded. -/
theorem cell_read (a5 : Memref sig .tc .smem S1 .f32) (h5 : a5.IsWhole) (xs : Vec F S1 .f32) (h) (hp) :
    View.readAt (Elt F) a5.view (Rect.unit (s := S1) ![0] ![1] h).toLoadRect (h5.unread xs) (Shape.Idx.first hp) = xs (ix1 (0 : Fin 1)) := by
  rw [View.readAt_eq_ld, Memref.IsWhole.read_unread]
  refine View.ld_unit_apply_of xs _ _ h _ _ fun a => ?_
  match a with
  | ⟨0, _⟩ => rfl

/-- The probability at a label, as the kernel looks it up in the label's tile `g`: every lane but the label's is
    replaced by zero and the lanes are added up. -/
def pick (w : BitVec 32) (g : Vec F S1x128 .f32) : FVec F S1x1 .f32 :=
  shapeCast S1x1 (multiReduction .add [1] S1
    (select (cmpi .eq (iota .tc S1x128 32 [1] iota_S1x128_d1_w32) (broadcast S1x128 (Scalar.subi w (tileBase w))))
      (shapeCast S1x128 (shapeCast S128 g shapeCasts_S1x128_S128) shapeCasts_S128_S1x128)
      (broadcast S1x128 (Scalar.ofBits .f32 0x00000000#32)))
    0x00000000#32 reduces_S1x128_S1 (.inl rfl) rfl) shapeCasts_S1_S1x1

/-- The probability at row `k`'s label. -/
def labelVal (x0 : Vec F S32x100000 .f32) (x2 : Vec F S32x1 .i32) (k : Fin 32) : FVec F S1x1 .f32 :=
  pick (wordAt x2 k) (tileAt x0 k (Scalar.indexCast (tileBase (wordAt x2 k))).toNat)

/-- Thirty-two values stacked into a column, as the kernel's concatenation does. -/
def stack (f : Fin 32 → FVec F S1x1 .f32) : FVec F S32x1 .f32 :=
  concatenate S32x1 0 (List.ofFn fun k : Fin 32 => ⟨S1x1, f k⟩)
    concatenates_S1x1_S1x1_S1x1_S1x1_S1x1_S1x1_S1x1_S1x1_S1x1_S1x1_S1x1_S1x1_S1x1_S1x1_S1x1_S1x1_S1x1_S1x1_S1x1_S1x1_S1x1_S1x1_S1x1_S1x1_S1x1_S1x1_S1x1_S1x1_S1x1_S1x1_S1x1_S1x1_S32x1_d0

/-- The column of the 32 rows' probabilities at their labels. -/
def labelVals (x0 : Vec F S32x100000 .f32) (x2 : Vec F S32x1 .i32) : FVec F S32x1 .f32 :=
  stack (labelVal x0 x2)

/-- How many entries of each row come before the label's in the order of `top_k`. -/
def labelCount (x0 : Vec F S32x100000 .f32) (x1 : IVec S32x1 32) (vl : FVec F S32x1 .f32) : FVec F S32x1 .f32 :=
  shapeCast S32x1 (multiReduction .add [1] S32
    (sitofp .f32 (extui 32
      (ori (cmpf .ogt x0 (broadcastTo S32x100000 vl broadcasts_S32x1_S32x100000))
        (andi (cmpf .oeq x0 (broadcastTo S32x100000 vl broadcasts_S32x1_S32x100000))
          (cmpi .slt (iota .tc S32x100000 32 [1] iota_S32x100000_d1_w32) (broadcastTo S32x100000 x1 broadcasts_S32x1_S32x100000))))
      natLt_1_32)) 0x00000000#32 reduces_S32x100000_S32 (.inl rfl) rfl) shapeCasts_S32_S32x1

/-- The sum of the 32 rows' scores of one block. -/
def blockSum (x0 : Vec F S32x100000 .f32) (x1 x2 : Vec F S32x1 .i32) : F .f32 :=
  k0_pay43 (k0_pay2 (F := F) x1) (labelCount x0 (k0_pay2 (F := F) x1) (labelVals x0 x2)) (k0_pay42 x0 (k0_pay3 x0))

/-- The rectangle of one label lies inside the column of labels. -/
theorem word_inb (k : Fin 32) : ∀ a : Fin 2, (![k.val, 0] : Fin 2 → Nat) a + S1x1.size a ≤ S32x1.size a := fun a =>
  match a with
  | ⟨0, _⟩ => k.isLt
  | ⟨1, _⟩ => Nat.le_refl 1

/-- Row `k`'s label, as the body loads it. -/
def rawWord (a3 : Memref sig .tc .smem S32x1 .i32) (h3 : a3.IsWhole) (x2 : Vec F S32x1 .i32) (k : Fin 32) : BitVec 32 :=
  View.readAt (Elt F) a3.view (Rect.unit (s := S32x1) ![k.val, 0] S1x1.size (word_inb k)).toLoadRect (h3.unread x2)
    (Shape.Idx.first (numel1_S1x1.symm ▸ Nat.one_pos))

/-- Every row's tile lies inside the block. -/
def TilesInside (a3 : Memref sig .tc .smem S32x1 .i32) (h3 : a3.IsWhole) (x2 : Vec F S32x1 .i32) : Prop :=
  ∀ (k : Fin 32) (a : Fin 2), (![k.val, (Scalar.indexCast (tileBase (rawWord a3 h3 x2 k))).toNat] : Fin 2 → Nat) a + S1x128.size a ≤ S32x100000.size a

/-- Row `k`'s tile, as the body loads it. -/
def rawTile (a1 : Memref sig .tc .vmem S32x100000 .f32) (h1 : a1.IsWhole) (a3 : Memref sig .tc .smem S32x1 .i32) (h3 : a3.IsWhole)
    (x0 : Vec F S32x100000 .f32) (x2 : Vec F S32x1 .i32) (H : TilesInside a3 h3 x2) (k : Fin 32) : Vec F S1x128 .f32 :=
  View.readAt (Elt F) a1.view (Rect.unit (s := S32x100000) ![k.val, (Scalar.indexCast (tileBase (rawWord a3 h3 x2 k))).toNat] S1x128.size (H k)).toLoadRect
    (h1.unread x0)

/-- The sum of the 32 rows' scores, with every label and tile as the body loads it. -/
def rawSum (a1 : Memref sig .tc .vmem S32x100000 .f32) (h1 : a1.IsWhole) (a3 : Memref sig .tc .smem S32x1 .i32) (h3 : a3.IsWhole)
    (x0 : Vec F S32x100000 .f32) (x1 x2 : Vec F S32x1 .i32) (H : TilesInside a3 h3 x2) : F .f32 :=
  k0_pay43 (k0_pay2 (F := F) x1)
    (labelCount x0 (k0_pay2 (F := F) x1)
      (stack fun k => pick (rawWord a3 h3 x2 k) (rawTile a1 h1 a3 h3 x0 x2 H k)))
    (k0_pay42 x0 (k0_pay3 x0))

/-- The loads read back: the sum in terms of the block's entries. -/
theorem rawSum_eq (a1 : Memref sig .tc .vmem S32x100000 .f32) (h1 : a1.IsWhole) (a3 : Memref sig .tc .smem S32x1 .i32) (h3 : a3.IsWhole)
    (x0 : Vec F S32x100000 .f32) (x1 x2 : Vec F S32x1 .i32) (H : TilesInside a3 h3 x2) :
    rawSum a1 h1 a3 h3 x0 x1 x2 H = blockSum x0 x1 x2 := by
  have e (k : Fin 32) : pick (rawWord a3 h3 x2 k) (rawTile a1 h1 a3 h3 x0 x2 H k) = labelVal x0 x2 k := by
    have ew : rawWord a3 h3 x2 k = wordAt x2 k := word_read a3 h3 x2 k _ _
    have et : rawTile a1 h1 a3 h3 x0 x2 H k = tileAt x0 k (Scalar.indexCast (tileBase (rawWord a3 h3 x2 k))).toNat :=
      tile_read a1 h1 x0 _ _ _
    rw [et, ew]
    rfl
  unfold rawSum blockSum labelVals
  rw [funext e]

/-- What the first point's body leaves in the scratch cell: the block's sum. -/
theorem sout_A (c i a1 h1 a2 h2 a3 h3 a4 h4 a5 h5 c0 c1 c2) (x0 : Vec F S32x100000 .f32) (x1 x2 : Vec F S32x1 .i32)
    (w1 w2 w3 w4 w5 w6 w7 w8 w9 w10 w11 w12 w13 w14 w15 w16 w17 w18 w19 w20 w21 w22 w23 w24 w25 w26 w27 w28 w29 w30 w31 w32) (H : TilesInside a3 h3 x2) :
    sout0_A_0 c i a1 h1 a2 h2 a3 h3 a4 h4 a5 h5 c0 c1 c2 x0 x1 x2 w1 w2 w3 w4 w5 w6 w7 w8 w9 w10 w11 w12 w13 w14 w15 w16 w17 w18 w19 w20 w21 w22 w23 w24 w25 w26 w27 w28 w29 w30 w31 w32
      = fun _ => blockSum x0 x1 x2 := by
  unfold sout0_A_0
  refine (View.read_writes_eq_canon _ _ _ fun y => by apply scover0_A_0).trans ?_
  unfold kernelRun0_A
  dsimp only
  rw [View.canon_unit_zero hz]
  sl_unfold_words
  simp only [rows_read, column_read]
  rw [← rawSum_eq a1 h1 a3 h3 x0 x1 x2 H]
  rfl

/-- What the body leaves in the scratch cell at a point after the first and before the last: the cell plus the block's sum. -/
theorem sout_B (c i a1 h1 a2 h2 a3 h3 a4 h4 a5 h5 c0 c1 c2) (x0 : Vec F S32x100000 .f32) (x1 x2 : Vec F S32x1 .i32) (xs : Vec F S1 .f32)
    (w1 w2 w3 w4 w5 w6 w7 w8 w9 w10 w11 w12 w13 w14 w15 w16 w17 w18 w19 w20 w21 w22 w23 w24 w25 w26 w27 w28 w29 w30 w31 w32) (H : TilesInside a3 h3 x2) :
    sout0_B_0 c i a1 h1 a2 h2 a3 h3 a4 h4 a5 h5 c0 c1 c2 x0 x1 x2 xs w1 w2 w3 w4 w5 w6 w7 w8 w9 w10 w11 w12 w13 w14 w15 w16 w17 w18 w19 w20 w21 w22 w23 w24 w25 w26 w27 w28 w29 w30 w31 w32
      = fun _ => Scalar.addf (xs (ix1 (0 : Fin 1))) (blockSum x0 x1 x2) := by
  unfold sout0_B_0
  refine (View.read_writes_eq_canon _ _ _ fun y => by apply scover0_B_0).trans ?_
  unfold kernelRun0_B
  dsimp only
  rw [View.canon_unit_zero hz]
  sl_unfold_words
  simp only [rows_read, column_read, cell_read]
  rw [← rawSum_eq a1 h1 a3 h3 x0 x1 x2 H]
  rfl

/-- What the body leaves in the scratch cell at the last point: the cell plus the block's sum. -/
theorem sout_C (c i a1 h1 a2 h2 a3 h3 a4 h4 a5 h5 c0 c1 c2) (x0 : Vec F S32x100000 .f32) (x1 x2 : Vec F S32x1 .i32) (xs : Vec F S1 .f32)
    (w1 w2 w3 w4 w5 w6 w7 w8 w9 w10 w11 w12 w13 w14 w15 w16 w17 w18 w19 w20 w21 w22 w23 w24 w25 w26 w27 w28 w29 w30 w31 w32) (H : TilesInside a3 h3 x2) :
    sout0_C_0 c i a1 h1 a2 h2 a3 h3 a4 h4 a5 h5 c0 c1 c2 x0 x1 x2 xs w1 w2 w3 w4 w5 w6 w7 w8 w9 w10 w11 w12 w13 w14 w15 w16 w17 w18 w19 w20 w21 w22 w23 w24 w25 w26 w27 w28 w29 w30 w31 w32
      = fun _ => Scalar.addf (xs (ix1 (0 : Fin 1))) (blockSum x0 x1 x2) := by
  unfold sout0_C_0
  refine (View.read_writes_eq_canon _ _ _ fun y => by apply scover0_C_0).trans ?_
  unfold kernelRun0_C
  dsimp only
  rw [View.canon_unit_zero hz]
  sl_unfold_words
  simp only [rows_read, column_read, cell_read]
  rw [← rawSum_eq a1 h1 a3 h3 x0 x1 x2 H]
  rfl

/-- What the body leaves in the output at the last point: the cell plus the block's sum. -/
theorem out_C (c i a1 h1 a2 h2 a3 h3 a4 h4 a5 h5 c0 c1 c2) (x0 : Vec F S32x100000 .f32) (x1 x2 : Vec F S32x1 .i32) (xs : Vec F S1 .f32)
    (w1 w2 w3 w4 w5 w6 w7 w8 w9 w10 w11 w12 w13 w14 w15 w16 w17 w18 w19 w20 w21 w22 w23 w24 w25 w26 w27 w28 w29 w30 w31 w32) (H : TilesInside a3 h3 x2) :
    out0_C_3 c i a1 h1 a2 h2 a3 h3 a4 h4 a5 h5 c0 c1 c2 x0 x1 x2 xs w1 w2 w3 w4 w5 w6 w7 w8 w9 w10 w11 w12 w13 w14 w15 w16 w17 w18 w19 w20 w21 w22 w23 w24 w25 w26 w27 w28 w29 w30 w31 w32
      = fun _ => Scalar.addf (xs (ix1 (0 : Fin 1))) (blockSum x0 x1 x2) := by
  unfold out0_C_3
  refine (View.read_writes_eq_canon _ _ _ fun y => by apply cover0_C_3).trans ?_
  unfold kernelRun0_C
  dsimp only
  rw [View.canon_unit_zero hz2]
  sl_unfold_words
  simp only [rows_read, column_read, cell_read]
  rw [← rawSum_eq a1 h1 a3 h3 x0 x1 x2 H]
  rfl

end Cert.KernelIdeal.Block
-- ==== Proof.Rank.lean ====
/-
  The mathematics of one row, without any program: a stable sort of the columns, greatest value first, puts a column
  among the first five exactly when fewer than five columns come before it, where a column comes before another when
  its value is greater, or equal and its index smaller.
-/
module

public import Idealize.ShloMosaic.Lib.SortPrefix
public import Mathlib.Data.EReal.Basic

@[expose] public section

namespace Cert.TopFive

open Idealize.ShloMosaic

/-- A list whose later elements are compared with its earlier ones alike by two relations is sorted alike by them. -/
theorem stableSort_congr_of_pairwise {ι : Type} (R R' : ι → ι → Bool) (l : List ι)
    (h : l.Pairwise fun a b => R b a = R' b a) : stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.mp hb)

variable {n : ℕ} (p : Fin n → EReal)

/-- Column `a` comes before column `b`: its value is greater, or equal and its index smaller. -/
def Before (a b : Fin n) : Prop := p b < p a ∨ (p a = p b ∧ a < b)

open Classical in
/-- How many columns come before column `c`. -/
noncomputable def rank (c : Fin n) : ℕ := (Finset.univ.filter fun a => Before p a c).card

open Classical in
/-- "Comes before" as a Boolean relation. -/
noncomputable def before (a b : Fin n) : Bool := decide (Before p a b)

theorem before_iff (a b : Fin n) : before p a b = true ↔ Before p a b := by
  unfold before; simp only [decide_eq_true_eq]

/-- Of two columns one comes before the other; none comes before itself; and the relation is transitive. -/
theorem strictTotal_before : StrictTotalBefore (before p) where
  irrefl a := by
    rw [← Bool.not_eq_true, before_iff]
    rintro (h | ⟨_, h⟩) <;> exact lt_irrefl _ h
  trans a b c hab hbc := by
    rw [before_iff] at hab hbc ⊢
    rcases hab with hab | ⟨eab, lab⟩ <;> rcases hbc with hbc | ⟨ebc, lbc⟩
    · exact Or.inl (hbc.trans hab)
    · exact Or.inl (ebc ▸ hab)
    · exact Or.inl (eab ▸ hbc)
    · exact Or.inr ⟨eab.trans ebc, lab.trans lbc⟩
  total a b hne := by
    rw [before_iff, before_iff]
    rcases lt_trichotomy (p a) (p b) with h | h | h
    · exact Or.inr (Or.inl h)
    · rcases lt_or_gt_of_ne hne with hlt | hgt
      · exact Or.inl (Or.inr ⟨h, hlt⟩)
      · exact Or.inr (Or.inr ⟨h.symm, hgt⟩)
    · exact Or.inl (Or.inl h)

/-- The stable sort by "is greater" is the sort by "comes before". -/
theorem sortedFrom_greater (R : Fin n → Fin n → Bool) (hR : ∀ a b, R a b = true ↔ p b < p a) :
    sortedFrom R = sortedFrom (before p) := by
  have e : sortPositions n R = sortPositions n (before p) := by
    refine stableSort_congr_of_pairwise _ _ _ ((List.pairwise_lt_finRange n).imp fun {a b} hab => ?_)
    rw [Bool.eq_iff_iff, hR, before_iff]
    constructor
    · exact Or.inl
    · rintro (h | ⟨_, h⟩)
      · exact h
      · exact absurd h (lt_asymm hab)
  funext k
  unfold sortedFrom
  rw [List.get_of_eq e]
  rfl

/-- In the sorted order an earlier position's column comes before a later one's, and only then. -/
theorem before_sortedFrom (i k : Fin n) : before p (sortedFrom (before p) i) (sortedFrom (before p) k) = true ↔ i < k := by
  have hB := strictTotal_before p
  have noInv : ∀ i j : Fin n, i < j → before p (sortedFrom (before p) j) (sortedFrom (before p) i) = false :=
    fun i j => sortedFrom_noInversion _ _ (fun a b h => hB.asymm a b h) (fun _ _ h => h) hB.negTrans i j
  constructor
  · intro h
    rcases lt_trichotomy i k with hik | hik | hik
    · exact hik
    · subst hik; rw [hB.irrefl] at h; exact absurd h (by decide)
    · rw [noInv k i hik] at h; exact absurd h (by decide)
  · intro hik
    rcases hB.total _ _ (fun e => hik.ne (sortedFrom_injective (before p) e)) with h | h
    · exact h
    · rw [noInv i k hik] at h; exact absurd h (by decide)

/-- The column at position `k` of the sorted order has exactly `k` columns before it. -/
theorem rank_sortedFrom (k : Fin n) : rank p (sortedFrom (before p) k) = k.val := by
  classical
  have hb : Function.Bijective (sortedFrom (before p)) := ⟨sortedFrom_injective _, sortedFrom_surjective _⟩
  have e : (Finset.univ.filter fun a => Before p a (sortedFrom (before p) k))
      = (Finset.univ.filter fun i => i < k).map ⟨sortedFrom (before p), sortedFrom_injective _⟩ := by
    ext a
    obtain ⟨i, rfl⟩ := hb.2 a
    simp only [Finset.mem_filter, Finset.mem_univ, true_and, Finset.mem_map, Function.Embedding.coeFn_mk]
    have h := before_sortedFrom p i k
    rw [before_iff] at h
    constructor
    · exact fun hi => ⟨i, h.mp hi, rfl⟩
    · rintro ⟨j, hj, hji⟩
      exact h.mpr (hb.1 hji ▸ hj)
  unfold rank
  rw [e, Finset.card_map]
  have : (Finset.univ.filter fun i : Fin n => i < k) = Finset.Iio k := by ext; simp
  rw [this, Fin.card_Iio]

/-- The set of the five columns with fewer than five columns before them. -/
noncomputable def top5 : Finset (Fin n) := by
  classical exact Finset.univ.filter fun c => rank p c < 5

theorem mem_top5 (c : Fin n) : c ∈ top5 p ↔ rank p c < 5 := by
  classical
  unfold top5; simp

/-- A column is among the five exactly when it stands at one of the first five positions of the sorted order. -/
theorem mem_top5_iff (hn : 5 ≤ n) (c : Fin n) :
    c ∈ top5 p ↔ ∃ j : Fin 5, sortedFrom (before p) (j.castLE hn) = c := by
  rw [mem_top5]
  constructor
  · intro h
    obtain ⟨k, rfl⟩ := sortedFrom_surjective (before p) c
    rw [rank_sortedFrom] at h
    exact ⟨⟨k.val, h⟩, rfl⟩
  · rintro ⟨j, rfl⟩
    rw [rank_sortedFrom]
    exact j.isLt

/-- There are five of them. -/
theorem card_top5 (hn : 5 ≤ n) : (top5 p).card = 5 := by
  classical
  have e : top5 p = (Finset.univ : Finset (Fin 5)).map
      ⟨fun j => sortedFrom (before p) (j.castLE hn), fun a b h => Fin.castLE_injective hn (sortedFrom_injective _ h)⟩ := by
    ext c
    rw [mem_top5_iff p hn]
    simp only [Finset.mem_map, Finset.mem_univ, true_and]
    rfl
  rw [e, Finset.card_map, Finset.card_univ, Fintype.card_fin]

end Cert.TopFive
-- ==== Proof.Row.lean ====
/-
  The mathematics of one row, continued: the row's F1 score as the kernel computes it from two ranks, and the same
  score from the counts of true positives, false positives and false negatives over the columns other than column 0.
-/
module

public import proofs.«01_k».proof.Proof.Rank
public import Idealize.ShloMosaic.PureOps.Ideal.Laws

@[expose] public section

namespace Cert.TopFive

open Idealize.ShloMosaic
open scoped BigOperators

open Classical in
/-- One when the statement holds, zero otherwise. -/
noncomputable def ind (P : Prop) : EReal := if P then 1 else 0

theorem ind_true {P : Prop} (h : P) : ind P = 1 := by unfold ind; exact if_pos h

theorem ind_false {P : Prop} (h : ¬ P) : ind P = 0 := by unfold ind; exact if_neg h

theorem ind_congr {P Q : Prop} (h : P ↔ Q) : ind P = ind Q := by rw [propext h]

/-- A product of two indicators is the indicator of both. -/
theorem ind_mul (P Q : Prop) : ind P * ind Q = ind (P ∧ Q) := by
  by_cases hP : P <;> by_cases hQ : Q <;> simp [ind, hP, hQ]

/-- One less an indicator is the indicator of the contrary. -/
theorem one_sub_ind (P : Prop) : 1 - ind P = ind (¬ P) := by
  by_cases hP : P
  · rw [ind_true hP, ind_false (not_not.mpr hP)]
    exact EReal.sub_self (EReal.coe_ne_top 1) (EReal.coe_ne_bot 1)
  · rw [ind_false hP, ind_true hP, sub_zero]

open Classical in
/-- How many elements have the property. -/
noncomputable def count {ι : Type} [Fintype ι] (P : ι → Prop) : ℕ := (Finset.univ.filter P).card

/-- The count, however the property is decided. -/
theorem count_eq {ι : Type} [Fintype ι] (P : ι → Prop) [DecidablePred P] : count P = (Finset.univ.filter P).card := by
  unfold count; congr

/-- A sum of indicators counts. -/
theorem sum_ind {ι : Type} [Fintype ι] (P : ι → Prop) : ∑ i, ind (P i) = (count P : EReal) := by
  classical
  unfold count
  rw [Finset.card_filter, Nat.cast_sum]
  exact Finset.sum_congr rfl fun i _ => by unfold ind; split <;> simp

variable {n : ℕ} (p : Fin (n + 1) → EReal) (l : Fin (n + 1))

/-- The F1 score of a row `p` with label `l`: twice whether the label is a counted hit, over six less whether column 0
    is among the first five. -/
noncomputable def f1 : EReal := Ideal.div (2 * ind (rank p l < 5 ∧ l ≠ 0)) (6 - ind (rank p 0 < 5))

/-- The F1 score from its counts: `2 tp / (2 tp + fp + fn)` where that denominator is positive, zero elsewhere. -/
noncomputable def f1Of (tp fp fn : EReal) : EReal :=
  if 0 < 2 * tp + fp + fn then Ideal.div (2 * tp) (if 0 < 2 * tp + fp + fn then 2 * tp + fp + fn else 1) else 0

open Classical in
/-- The columns after column 0 that are among the first five number five, less one when column 0 is itself. -/
theorem card_succ_top5 (hn : 5 ≤ n + 1) :
    (count fun k : Fin n => k.succ ∈ top5 p) + (if (0 : Fin (n + 1)) ∈ top5 p then 1 else 0) = 5 := by
  have h := Fin.card_filter_univ_succ fun c : Fin (n + 1) => c ∈ top5 p
  have e : (Finset.univ.filter fun c : Fin (n + 1) => c ∈ top5 p) = top5 p := by ext; simp
  rw [e, card_top5 p hn] at h
  rw [count_eq]
  split at h <;> rename_i h0
  · rw [if_pos h0]; omega
  · rw [if_neg h0]; omega

open Classical in
/-- The true positives, and the true positives with the false negatives, as numbers. -/
theorem card_hits (Q : Fin (n + 1) → Prop) :
    (count fun k : Fin n => Q k.succ ∧ l = k.succ) = if Q l ∧ l ≠ 0 then 1 else 0 := by
  rw [count_eq]
  refine Fin.cases ?_ (fun k0 => ?_) l
  · rw [if_neg (fun h => h.2 rfl), Finset.card_eq_zero, Finset.filter_eq_empty_iff]
    exact fun k _ h => Fin.succ_ne_zero k h.2.symm
  · split <;> rename_i h
    · rw [Finset.card_eq_one]
      refine ⟨k0, ?_⟩
      ext k
      simp only [Finset.mem_filter, Finset.mem_univ, true_and, Finset.mem_singleton, Fin.succ_inj]
      constructor
      · exact fun h' => h'.2.symm
      · rintro rfl; exact ⟨h.1, rfl⟩
    · rw [Finset.card_eq_zero, Finset.filter_eq_empty_iff]
      rintro k - ⟨hQ, hk⟩
      exact h ⟨hk ▸ hQ, Fin.succ_ne_zero k0⟩

/-- The score from the counts is the score from the ranks. -/
theorem f1Of_counts (hn : 5 ≤ n + 1) :
    f1Of (∑ k : Fin n, ind (k.succ ∈ top5 p) * ind (l = k.succ))
        (∑ k : Fin n, ind (k.succ ∈ top5 p) * (1 - ind (l = k.succ)))
        (∑ k : Fin n, (1 - ind (k.succ ∈ top5 p)) * ind (l = k.succ)) = f1 p l := by
  classical
  simp only [one_sub_ind, ind_mul, sum_ind]
  have hA := card_hits l fun c => c ∈ top5 p
  have hC := card_hits l fun c => ¬ c ∈ top5 p
  have hB : (count fun k : Fin n => k.succ ∈ top5 p ∧ l = k.succ) + (count fun k : Fin n => k.succ ∈ top5 p ∧ ¬ l = k.succ)
      = count fun k : Fin n => k.succ ∈ top5 p := by
    rw [count_eq, count_eq, count_eq, ← Finset.filter_filter, ← Finset.filter_filter]
    exact Finset.card_filter_add_card_filter_not _
  have hT := card_succ_top5 p hn
  generalize (count fun k : Fin n => k.succ ∈ top5 p ∧ l = k.succ) = A at hA hB ⊢
  generalize (count fun k : Fin n => k.succ ∈ top5 p ∧ ¬ l = k.succ) = B at hB ⊢
  generalize (count fun k : Fin n => ¬ k.succ ∈ top5 p ∧ l = k.succ) = C at hC ⊢
  have hD : 2 * (A : EReal) + B + C = ((2 * A + B + C : ℕ) : EReal) := by push_cast; rfl
  have hpos : 0 < 2 * A + B + C := by split at hA <;> split at hT <;> omega
  have hpos' : (0 : EReal) < ((2 * A + B + C : ℕ) : EReal) := by exact_mod_cast hpos
  unfold f1Of f1
  rw [hD, if_pos hpos', if_pos hpos']
  simp only [← mem_top5]
  by_cases hit : l ∈ top5 p ∧ l ≠ 0
  · rw [if_pos hit] at hA
    rw [if_neg (fun h => h.1 hit.1)] at hC
    rw [ind_true hit, hA, Nat.cast_one]
    congr 1
    by_cases h0 : (0 : Fin (n + 1)) ∈ top5 p
    · rw [if_pos h0] at hT
      rw [ind_true h0, show 2 * 1 + B + C = 5 by omega]
      rw [show (6 : EReal) = ((6 : ℝ) : EReal) from rfl, show (1 : EReal) = ((1 : ℝ) : EReal) from rfl, ← EReal.coe_sub]
      norm_num
      rfl
    · rw [if_neg h0] at hT
      rw [ind_false h0, sub_zero, show 2 * 1 + B + C = 6 by omega]
      rfl
  · rw [if_neg hit] at hA
    have hz : (6 : EReal) - ind ((0 : Fin (n + 1)) ∈ top5 p) ≠ 0 := by
      by_cases h0 : (0 : Fin (n + 1)) ∈ top5 p
      · rw [ind_true h0, show (6 : EReal) = ((6 : ℝ) : EReal) from rfl, show (1 : EReal) = ((1 : ℝ) : EReal) from rfl,
          ← EReal.coe_sub]
        norm_num
      · rw [ind_false h0, sub_zero, show (6 : EReal) = ((6 : ℝ) : EReal) from rfl]
        exact_mod_cast (by norm_num : (6 : ℝ) ≠ 0)
    rw [hA] at hpos'
    rw [ind_false hit, hA, Nat.cast_zero, mul_zero]
    unfold Ideal.div
    rw [if_neg hpos'.ne', if_neg hz, zero_mul, zero_mul]

end Cert.TopFive
-- ==== Proof.Score.lean ====
/-
  One grid point's sum read at the extended reals: the sum, over the block's 32 rows, of the row's F1 score with the
  row's label.
-/
module

public import proofs.«01_k».proof.Proof.Row
public import proofs.«01_k».proof.Proof.Block
public import Idealize.ShloMosaic.PureOps.Ideal.Laws
public import Idealize.ShloMosaic.Lib.IdealHost

@[expose] public section

noncomputable section

namespace Cert.KernelIdeal.Block

open Idealize.ShloMosaic Idealize.ShloMosaic.TcCoe Idealize.ShloMosaic.ValueIdx Cert.KernelIdeal Cert.KernelIdeal.Gen Cert.TopFive
open scoped BigOperators

/-- A one-bit word widened and converted to a float is the indicator of the bit. -/
theorem bit_ind {s : Shape} (b : IVec s 1) (h) (i : s.Idx) :
    sitofp (F := Ideal) .f32 (extui 32 b h) i = ind (b i = 1#1) := by
  have key : ∀ x : BitVec 1, (((x.setWidth 32).toInt : ℝ) : EReal) = ind (x = 1#1) := fun x => by
    rcases (by revert x; decide : ∀ x : BitVec 1, x = 0#1 ∨ x = 1#1) x with rfl | rfl
    · rw [ind_false (by decide), show ((0#1 : BitVec 1).setWidth 32).toInt = 0 from rfl]; simp
    · rw [ind_true rfl, show ((1#1 : BitVec 1).setWidth 32).toInt = 1 from rfl]; simp
  exact key (b i)

/-- The row sums of a block, as a column. -/
theorem sum_at (v : FVec Ideal S32x100000 .f32) (k : Fin 32) :
    shapeCast S32x1 (multiReduction (F := Ideal) .add [1] S32 v 0x00000000#32 reduces_S32x100000_S32 (.inl rfl) rfl)
      shapeCasts_S32_S32x1 (ix2 k (0 : Fin 1)) = ∑ c : Fin 100000, v (ix2 k c) := by
  refine (shapeCast_apply _ _ _ (ix1 k) ?_).trans ?_
  · rw [Shape.rowMajor_val_one, Shape.rowMajor_val_two]
    show k.val = k.val * 1 + 0
    omega
  · refine (Ideal.multiReduction_add_single v _ reduces_S32x100000_S32 _ _ (ix1 k)).trans ?_
    refine Finset.sum_congr rfl fun c _ => congrArg v (funext fun a => ?_)
    match a with
    | ⟨0, _⟩ => rfl
    | ⟨1, _⟩ => rfl

/-- A block of bits, widened, converted and summed along the rows: how many columns of the row have the bit set. -/
theorem count_at (b : IVec S32x100000 1) (k : Fin 32) (P : Fin 100000 → Prop) (h : ∀ c, b (ix2 k c) = 1#1 ↔ P c) :
    shapeCast S32x1 (multiReduction (F := Ideal) .add [1] S32 (sitofp .f32 (extui 32 b natLt_1_32)) 0x00000000#32
        reduces_S32x100000_S32 (.inl rfl) rfl)
      shapeCasts_S32_S32x1 (ix2 k (0 : Fin 1)) = (count P : EReal) := by
  rw [sum_at, ← sum_ind]
  exact Finset.sum_congr rfl fun c _ => (bit_ind b _ _).trans (ind_congr (h c))

/-- A column repeated along the rows, at an entry. -/
theorem repeat_at {α : Type} (v : S32x1.Idx → α) (k : Fin 32) (c : Fin 100000) :
    broadcastTo S32x100000 v broadcasts_S32x1_S32x100000 (ix2 k c) = v (ix2 k (0 : Fin 1)) := by
  refine broadcastTo_apply v _ _ _ fun a => ?_
  match a with
  | ⟨0, _⟩ => rfl
  | ⟨1, _⟩ => rfl

theorem gt_iff (x y : EReal) : Ideal.cmp .ogt x y = 1#1 ↔ y < x := by
  by_cases h : y < x <;> simp [Ideal.cmp, h]

theorem lt_iff (x y : EReal) : Ideal.cmp .olt x y = 1#1 ↔ x < y := by
  by_cases h : x < y <;> simp [Ideal.cmp, h]

theorem eq_iff (x y : EReal) : Ideal.cmp .oeq x y = 1#1 ↔ x = y := by
  by_cases h : x = y <;> simp [Ideal.cmp, h]

theorem or_iff (x y : BitVec 1) : x ||| y = 1#1 ↔ x = 1#1 ∨ y = 1#1 := by revert x y; decide

theorem and_iff (x y : BitVec 1) : x &&& y = 1#1 ↔ x = 1#1 ∧ y = 1#1 := by revert x y; decide

/-- A column number is below a label, compared as signed words. -/
theorem below_iff (c : Fin 100000) (w : BitVec 32) (hw : w.toNat < 99968) :
    IntOp.cmpi .slt (BitVec.ofNat 32 c.val) w = 1#1 ↔ c.val < w.toNat := by
  have hc := c.isLt
  have e : (BitVec.ofNat 32 c.val).toInt = c.val := by
    rw [BitVec.toInt_eq_toNat_of_lt] <;> rw [BitVec.toNat_ofNat] <;> omega
  have e' : w.toInt = w.toNat := BitVec.toInt_eq_toNat_of_lt (by omega)
  show BitVec.ofBool (BitVec.slt _ _) = 1#1 ↔ _
  rw [BitVec.slt, e, e']
  by_cases h : c.val < w.toNat
  · simp [h]
  · simp [h]

variable (x0 : Vec Ideal S32x100000 .f32) (x1 : Vec Ideal S32x1 .i32)

/-- Row `k` of the block. -/
def blockRow (k : Fin 32) : Fin 100000 → EReal := fun c => x0 (ix2 k c)

/-- Thirty-two values stacked, at an entry. -/
theorem stack_at (f : Fin 32 → FVec Ideal S1x1 .f32) (k : Fin 32) :
    stack f (ix2 k (0 : Fin 1)) = f k (ix2 (0 : Fin 1) (0 : Fin 1)) := by
  refine concatenate_ofFn_unit_apply (t := S32x1) (s₁ := S1x1) (0 : Fin 2) f _ rfl rfl (ix2 k (0 : Fin 1)) k rfl _ fun b hb => ?_
  match b with
  | ⟨0, _⟩ => exact absurd rfl hb
  | ⟨1, _⟩ => rfl

/-- The lookup in the label's tile finds the row's entry at the label. -/
theorem pick_at (k : Fin 32) (w : BitVec 32) (hw : w.toNat < 99968) :
    pick w (tileAt x0 k (Scalar.indexCast (tileBase w)).toNat) (ix2 (0 : Fin 1) (0 : Fin 1))
      = x0 (ix2 k (⟨w.toNat, by omega⟩ : Fin 100000)) := by
  have eb : (Scalar.indexCast (tileBase w)).toNat = w.toNat / 128 * 128 := tileBase_toNat (by omega)
  have hsub : (w - tileBase w).toNat = w.toNat % 128 := by
    rw [BitVec.toNat_sub, tileBase_toNat (by omega)]
    omega
  unfold pick
  refine (shapeCast_apply _ _ _ (ix1 (0 : Fin 1)) (by rw [Shape.rowMajor_val_one, Shape.rowMajor_val_two]; rfl)).trans ?_
  refine (Ideal.multiReduction_add_single _ _ reduces_S1x128_S1 _ _ (ix1 (0 : Fin 1))).trans ?_
  have term : ∀ j : Fin 128, reduces_S1x128_S1.lift (ix1 (0 : Fin 1)) j = ix2 (0 : Fin 1) j := fun j => by
    funext a
    match a with
    | ⟨0, _⟩ => rfl
    | ⟨1, _⟩ => rfl
  have cast2 : ∀ (g : Vec Ideal S1x128 .f32) (j : Fin 128),
      shapeCast S1x128 (shapeCast S128 g shapeCasts_S1x128_S128) shapeCasts_S128_S1x128 (ix2 (0 : Fin 1) j) = g (ix2 (0 : Fin 1) j) := fun g j => by
    refine (shapeCast_apply _ _ _ (ix1 j) ?_).trans (shapeCast_apply _ _ _ _ ?_)
    · rw [Shape.rowMajor_val_one, Shape.rowMajor_val_two]; show j.val = 0 * 128 + j.val; omega
    · rw [Shape.rowMajor_val_one, Shape.rowMajor_val_two]; show 0 * 128 + j.val = j.val; omega
  have lane : ∀ j : Fin 128, (BitVec.ofNat 32 j.val = w - tileBase w) ↔ j.val = w.toNat % 128 := fun j => by
    have hj := j.isLt
    rw [← BitVec.toNat_inj, hsub, BitVec.toNat_ofNat]
    omega
  have val : ∀ j : Fin 128,
      select (cmpi .eq (iota .tc S1x128 32 [1] iota_S1x128_d1_w32) (broadcast S1x128 (Scalar.subi w (tileBase w))))
        (shapeCast S1x128 (shapeCast S128 (tileAt x0 k (Scalar.indexCast (tileBase w)).toNat) shapeCasts_S1x128_S128) shapeCasts_S128_S1x128)
        (broadcast S1x128 (Scalar.ofBits (F := Ideal) .f32 0x00000000#32)) (ix2 (0 : Fin 1) j)
      = if j.val = w.toNat % 128 then x0 (ix2 k (⟨w.toNat, by omega⟩ : Fin 100000)) else 0 := fun j => by
    have hj := j.isLt
    have ei : iota .tc S1x128 32 [1] iota_S1x128_d1_w32 (ix2 (0 : Fin 1) j) = BitVec.ofNat 32 j.val := by
      show BitVec.ofNat 32 (0 * 128 + j.val) = _
      rw [Nat.zero_mul, Nat.zero_add]
    show Scalar.select (IntOp.cmpi .eq (iota .tc S1x128 32 [1] iota_S1x128_d1_w32 (ix2 (0 : Fin 1) j)) (w - tileBase w)) _ (Ideal.ofBits .f32 0x00000000#32) = _
    rw [ei, cast2, Ideal.ofBits_zero_f32]
    by_cases h : j.val = w.toNat % 128
    · rw [if_pos h]
      have hb : IntOp.cmpi .eq (BitVec.ofNat 32 j.val) (w - tileBase w) = 1#1 := by
        rw [(lane j).mpr h]; simp [IntOp.cmpi]
      rw [hb]
      show tileAt x0 k _ (ix2 (0 : Fin 1) j) = _
      unfold tileAt
      refine congrArg x0 (funext fun a => ?_)
      match a with
      | ⟨0, _⟩ => exact Fin.ext (Nat.mod_eq_of_lt k.isLt)
      | ⟨1, _⟩ =>
        refine Fin.ext ?_
        show ((Scalar.indexCast (tileBase w)).toNat + j.val) % 100000 = w.toNat
        rw [eb]
        omega
    · rw [if_neg h]
      have hb : IntOp.cmpi .eq (BitVec.ofNat 32 j.val) (w - tileBase w) = 0#1 := by
        simp [IntOp.cmpi, beq_eq_false_iff_ne.mpr fun e => h ((lane j).mp e)]
      rw [hb]
      rfl
  refine (Finset.sum_congr rfl fun j _ => (congrArg _ (term j)).trans (val j)).trans ?_
  refine (Finset.sum_eq_single (⟨w.toNat % 128, Nat.mod_lt _ (by decide)⟩ : Fin 128) ?_ ?_).trans (if_pos rfl)
  · exact fun j _ hj => if_neg fun e => hj (Fin.ext e)
  · exact fun h => absurd (Finset.mem_univ _) h

/-- How many entries of row `k` come before the label's, as the kernel counts them, is the label's rank. -/
theorem labelCount_at (vl : FVec Ideal S32x1 .f32) (k : Fin 32) (l : Fin 100000) (hl : l.val < 99968)
    (h1 : x1 (ix2 k (0 : Fin 1)) = BitVec.ofNat 32 l.val) (hv : vl (ix2 k (0 : Fin 1)) = blockRow x0 k l) :
    labelCount x0 x1 vl (ix2 k (0 : Fin 1)) = (rank (blockRow x0 k) l : EReal) := by
  unfold labelCount
  refine (count_at _ k (fun c => Before (blockRow x0 k) c l) fun c => ?_).trans ?_
  · have hw : (BitVec.ofNat 32 l.val).toNat = l.val := by rw [BitVec.toNat_ofNat]; omega
    have ei : iota .tc S32x100000 32 [1] iota_S32x100000_d1_w32 (ix2 k c) = BitVec.ofNat 32 c.val := by
      show BitVec.ofNat 32 (0 * 100000 + c.val) = _
      rw [Nat.zero_mul, Nat.zero_add]
    show Ideal.cmp .ogt (blockRow x0 k c) (broadcastTo S32x100000 vl broadcasts_S32x1_S32x100000 (ix2 k c))
        ||| (Ideal.cmp .oeq (blockRow x0 k c) (broadcastTo S32x100000 vl broadcasts_S32x1_S32x100000 (ix2 k c))
          &&& IntOp.cmpi .slt (iota .tc S32x100000 32 [1] iota_S32x100000_d1_w32 (ix2 k c))
            (broadcastTo S32x100000 x1 broadcasts_S32x1_S32x100000 (ix2 k c))) = 1#1 ↔ _
    rw [ei, repeat_at, repeat_at, hv, h1, or_iff, and_iff, gt_iff, eq_iff, below_iff c _ (by rw [hw]; exact hl), hw]
    exact Iff.rfl
  · rfl

/-- How many entries of row `k` are greater than its first, as the kernel counts them, is the rank of column 0. -/
theorem firstCount_at (k : Fin 32) : k0_pay42 x0 (k0_pay3 x0) (ix2 k (0 : Fin 1)) = (rank (blockRow x0 k) 0 : EReal) := by
  unfold k0_pay42
  refine (count_at _ k (fun c => Before (blockRow x0 k) c 0) fun c => ?_).trans ?_
  · have e3 : k0_pay3 x0 (ix2 k (0 : Fin 1)) = blockRow x0 k 0 := by
      refine extractStridedSlice_apply ![0, 0] x0 slices_S32x100000_o0_0_S32x1 _ _ fun a => ?_
      match a with
      | ⟨0, _⟩ => exact (Nat.zero_add _).symm
      | ⟨1, _⟩ => rfl
    show Ideal.cmp .ogt (blockRow x0 k c) (broadcastTo S32x100000 (k0_pay3 x0) broadcasts_S32x1_S32x100000 (ix2 k c)) = 1#1 ↔ _
    rw [repeat_at, e3, gt_iff]
    exact ⟨Or.inl, fun h => h.resolve_right fun h => Nat.not_lt_zero _ h.2⟩
  · rfl

/-- A count is below the word of `5.0` as it is below five. -/
theorem under5 (n : ℕ) : Ideal.cmp .olt (n : EReal) (Ideal.ofBits .f32 0x40A00000#32) = 1#1 ↔ n < 5 := by
  have e : Ideal.ofBits .f32 0x40A00000#32 = ((5 : ℕ) : EReal) := by
    rw [show ((5 : ℕ) : EReal) = ((5 : ℝ) : EReal) by norm_cast]
    simp [Ideal.ofBits, Ideal.ieee, -EReal.coe_mul]; norm_num
  rw [lt_iff, e]
  exact_mod_cast Iff.rfl

/-- The sum of the rows' scores from the two counts. -/
theorem scores_at (v2 : IVec S32x1 32) (c1 c2 : FVec Ideal S32x1 .f32) (n1 n2 : Fin 32 → ℕ)
    (e1 : ∀ k, c1 (ix2 k (0 : Fin 1)) = (n1 k : EReal)) (e2 : ∀ k, c2 (ix2 k (0 : Fin 1)) = (n2 k : EReal)) :
    k0_pay43 (F := Ideal) v2 c1 c2 = ∑ k : Fin 32, Ideal.div (2 * ind (n1 k < 5 ∧ v2 (ix2 k (0 : Fin 1)) ≠ 0#32)) (6 - ind (n2 k < 5)) := by
  have two : Ideal.ofBits .f32 0x40000000#32 = 2 := by
    rw [show (2 : EReal) = ((2 : ℝ) : EReal) from rfl]
    simp [Ideal.ofBits, Ideal.ieee, -EReal.coe_mul]; norm_num
  have six : Ideal.ofBits .f32 0x40C00000#32 = 6 := by
    rw [show (6 : EReal) = ((6 : ℝ) : EReal) from rfl]
    simp [Ideal.ofBits, Ideal.ieee, -EReal.coe_mul]; norm_num
  have ne_iff (x : BitVec 32) : IntOp.cmpi .ne x 0#32 = 1#1 ↔ x ≠ 0#32 := by
    by_cases h : x = 0#32
    · simp [IntOp.cmpi, h]
    · simp only [IntOp.cmpi, bne_iff_ne.mpr h]
      exact iff_of_true rfl h
  unfold k0_pay43
  refine (shapeCast_apply (t := S1x1x1) _ _ _ (ix1 (0 : Fin 1)) (by rw [Shape.rowMajor_val_one, Shape.rowMajor_val_three]; rfl)).trans ?_
  refine (Ideal.multiReduction_add_total _ _ reduces_S1x32x1_S1 (fun b => match b with | ⟨0, _⟩ => rfl) _ _ (ix1 (0 : Fin 1))).trans ?_
  let e : Fin 32 ≃ S1x32x1.Idx := ⟨fun k => ix3 (0 : Fin 1) k (0 : Fin 1), fun j => j 1, fun _ => rfl, fun j => by
    rw [eq_ix3 j]
    funext a
    match a with
    | ⟨0, _⟩ => exact Subsingleton.elim (α := Fin 1) _ _
    | ⟨1, _⟩ => rfl
    | ⟨2, _⟩ => exact Subsingleton.elim (α := Fin 1) _ _⟩
  refine (Fintype.sum_equiv e _ _ fun k => ?_).symm
  refine Eq.symm ((shapeCast_apply _ _ _ (ix2 k (0 : Fin 1)) ?_).trans ?_)
  · rw [Shape.rowMajor_val_two, Shape.rowMajor_val_three]
    show k.val * 1 + 0 = (0 * 32 + k.val) * 1 + 0
    omega
  · refine congrArg₂ Ideal.div (congrArg₂ (· * ·) two ?_) (congrArg₂ (· - ·) six ?_)
    · refine (bit_ind _ _ _).trans (ind_congr ?_)
      show Ideal.cmp .olt (c1 (ix2 k (0 : Fin 1))) (Ideal.ofBits .f32 0x40A00000#32) &&& IntOp.cmpi .ne (v2 (ix2 k (0 : Fin 1))) 0#32 = 1#1 ↔ _
      rw [and_iff, e1, under5, ne_iff]
    · refine (bit_ind _ _ _).trans (ind_congr ?_)
      show Ideal.cmp .olt (c2 (ix2 k (0 : Fin 1))) (Ideal.ofBits .f32 0x40A00000#32) = 1#1 ↔ _
      rw [e2, under5]

/-- One grid point's sum: the 32 rows' F1 scores added up. -/
theorem blockSum_eq (x2 : Vec Ideal S32x1 .i32) (lab : Fin 32 → Fin 100000) (hl : ∀ k, (lab k).val < 99968)
    (h1 : ∀ k, x1 (ix2 k (0 : Fin 1)) = BitVec.ofNat 32 (lab k).val) (h2 : ∀ k, x2 (ix2 k (0 : Fin 1)) = BitVec.ofNat 32 (lab k).val) :
    blockSum x0 x1 x2 = ∑ k : Fin 32, f1 (n := 99999) (blockRow x0 k) (lab k) := by
  have hw (k : Fin 32) : (BitVec.ofNat 32 (lab k).val).toNat = (lab k).val := by
    have := hl k
    rw [BitVec.toNat_ofNat]; omega
  have e2 : k0_pay2 (F := Ideal) x1 = x1 := shapeCast_self _ _
  have hword (k : Fin 32) : wordAt (F := Ideal) x2 k = BitVec.ofNat 32 (lab k).val := by
    rw [← h2 k]
    refine congrArg x2 (funext fun a => ?_)
    match a with
    | ⟨0, _⟩ => exact Fin.ext (Nat.mod_eq_of_lt k.isLt)
    | ⟨1, _⟩ => rfl
  have hval (k : Fin 32) : labelVals x0 x2 (ix2 k (0 : Fin 1)) = blockRow x0 k (lab k) := by
    unfold labelVals
    rw [stack_at]
    unfold labelVal
    rw [hword, pick_at x0 k _ (by rw [hw]; exact hl k)]
    exact congrArg (fun c => x0 (ix2 k c)) (Fin.ext (hw k))
  unfold blockSum
  rw [e2]
  refine (scores_at x1 _ _ _ _ (fun k => labelCount_at x0 x1 _ k (lab k) (hl k) (h1 k) (hval k)) (firstCount_at x0)).trans ?_
  refine Finset.sum_congr rfl fun k _ => ?_
  unfold f1
  refine congrArg (fun P => Ideal.div (2 * P) _) (ind_congr (and_congr Iff.rfl (not_congr ?_)))
  rw [h1 k, ← BitVec.toNat_inj, hw]
  constructor
  · exact fun h => Fin.ext h
  · exact fun h => congrArg Fin.val h

end Cert.KernelIdeal.Block
-- ==== Proof.Reference.lean ====
/-
  The reference at extended reals, read: the indices of the top five entries of a row are the first five columns of the
  row's sorted order; scattering ones there gives the indicator of that set; the three sums over the columns after
  column 0 are the counts of Row.lean; the result is the mean of the rows' F1 scores.
-/
module

public import proofs.«01_k».proof.Proof.Row
public import proofs.«01_k».proof.Proof.Gen.ReferenceIdeal
public import proofs.«01_k».proof.Proof.Gen.ReferenceIdeal.Read
public import Idealize.ShloMosaic.Lib.Routing.OpsPair
public import Idealize.ShloMosaic.Lib.IdealHost

@[expose] public section

set_option maxRecDepth 16384

noncomputable section

namespace Cert.ReferenceIdeal.Top

open Cert.ReferenceIdeal Cert.ReferenceIdeal.Gen Cert.ReferenceIdeal.Read Cert.TopFive
open Idealize.ShloMosaic Idealize.ShloMosaic.ValueIdx Idealize.ShloMosaic.Routing
open scoped BigOperators

variable (x0 : FVec Ideal S1024x100000 .f32) (x1 : IVec S1024 32)

/-- Row `r` of the probabilities. -/
def row (r : Fin 1024) (c : Fin 100000) : EReal := x0 (ix2 r c)

/-- Moving along the second axis replaces the second coordinate. -/
theorem along_ix2 {A B : ℕ} (r : Fin A) (c k : Fin B) :
    Shape.Idx.along (s := ⟨2, ![A, B]⟩) (ix2 r c) (1 : Fin 2) k = ix2 r k := by
  funext a
  match a with
  | ⟨0, _⟩ => rfl
  | ⟨1, _⟩ => rfl

theorem ofBool_eq_one (p : Prop) [Decidable p] : BitVec.ofBool (decide p) = 1#1 ↔ p := by
  by_cases h : p <;> simp [h]

/-- The index words of the greatest `K` entries of each row of an `A × B` matrix. -/
theorem topK_index {A B K : ℕ} {α : Type} (gt : α → α → BitVec 1) (x : (⟨2, ![A, B]⟩ : Shape).Idx → α)
    (h : (⟨2, ![A, B]⟩ : Shape).Slices (fun _ => 0) ⟨2, ![A, K]⟩) (hK : K ≤ B) (r : Fin A) (j : Fin K) :
    (Host.topK (s := ⟨2, ![A, B]⟩) ⟨2, ![A, K]⟩ 1 gt x h).2 (ix2 r j)
      = BitVec.ofNat 32 (sortedFrom (fun k k' : Fin B => gt (x (ix2 r k)) (x (ix2 r k')) == 1#1) (j.castLE hK)).val := by
  unfold Host.topK
  dsimp only
  rw [extractStridedSlice_apply _ _ _ (ix2 r j) (ix2 r (j.castLE hK)) (fun a => by
    match a with
    | ⟨0, _⟩ => exact (Nat.zero_add _).symm
    | ⟨1, _⟩ => exact (Nat.zero_add _).symm)]
  unfold Host.sort2
  rw [dif_pos (by decide : 1 < 2)]
  dsimp only
  rw [dif_pos (by decide : 1 < 2)]
  have e : (fun k k' : Fin B => gt (x (Shape.Idx.along (s := ⟨2, ![A, B]⟩) (ix2 r (j.castLE hK)) (1 : Fin 2) k))
      (x (Shape.Idx.along (s := ⟨2, ![A, B]⟩) (ix2 r (j.castLE hK)) (1 : Fin 2) k')) == 1#1)
      = fun k k' => gt (x (ix2 r k)) (x (ix2 r k')) == 1#1 := by
    funext k k'; rw [along_ix2, along_ix2]
  exact congrArg (fun R => BitVec.ofNat 32 (sortedFrom R (j.castLE hK)).val) e

/-- The index word at position `j` of row `r` is the column at position `j` of the row's sorted order. -/
theorem indices_at (r : Fin 1024) (j : Fin 5) :
    val_main_indices (F := Ideal) x0 (ix2 r j)
      = BitVec.ofNat 32 (sortedFrom (before (row x0 r)) (j.castLE (by decide))).val := by
  rw [← sortedFrom_greater (row x0 r) (fun k k' => FloatOps.cmpfTotal (F := Ideal) (φ := .f32) .gt (row x0 r k) (row x0 r k') == 1#1)
    (fun a b => by rw [beq_iff_eq]; exact ofBool_eq_one _)]
  exact topK_index _ x0 _ _ r j

/-- A small number as a word, read signed. -/
theorem toInt_ofNat {a : ℕ} (h : a < 2 ^ 31) : (BitVec.ofNat 32 a).toInt = a := by
  rw [BitVec.toInt_eq_toNat_of_lt (by rw [BitVec.toNat_ofNat]; omega), BitVec.toNat_ofNat, Nat.mod_eq_of_lt (by omega)]

/-- jnp's wrap of a small index leaves it. -/
theorem wrap_ofNat {a : ℕ} (h : a < 2 ^ 31) (y : BitVec 32) :
    Scalar.select (IntOp.cmpi .slt (BitVec.ofNat 32 a) 0#32) y (BitVec.ofNat 32 a) = BitVec.ofNat 32 a :=
  wrap_of_lt _ _ (by rw [BitVec.toNat_ofNat, Nat.mod_eq_of_lt (by omega)]; exact h)

/-- The first index word of update `(r, j)` is the row. -/
theorem v17_row (r : Fin 1024) (j : Fin 5) : val_main_v17 (F := Ideal) x0 (ix3 r j 0) = BitVec.ofNat 32 r.val := by
  unfold val_main_v17
  refine (concatenate_pair_apply_left (t := S1024x5x2) (s₁ := S1024x5x1) 2 _ _ _ _ rfl (ix3 r j (0 : Fin 1)) (fun b => by
    match b with
    | ⟨0, _⟩ => rfl
    | ⟨1, _⟩ => rfl
    | ⟨2, _⟩ => rfl)).trans ?_
  rw [val_main_v15_apply, val_main_v14_apply, val_main_v8_apply, val_main_v5_apply, val_main_v4_apply, val_main_c_apply,
    val_main_v3_apply, val_main_v2_apply]
  exact wrap_ofNat (a := r.val) (r.isLt.trans (by decide)) _

/-- The second index word of update `(r, j)` is the column at position `j` of the row's sorted order. -/
theorem v17_column (r : Fin 1024) (j : Fin 5) : val_main_v17 (F := Ideal) x0 (ix3 r j 1)
    = BitVec.ofNat 32 (sortedFrom (before (row x0 r)) (j.castLE (by decide))).val := by
  unfold val_main_v17
  refine (concatenate_pair_apply_right (t := S1024x5x2) (s₁ := S1024x5x1) (s₂ := S1024x5x1) 2 _ _ _ _ rfl rfl
    (ix3 r j (0 : Fin 1)) (fun b hb => by
      match b with
      | ⟨0, _⟩ => rfl
      | ⟨1, _⟩ => rfl
      | ⟨2, _⟩ => exact absurd rfl hb) rfl).trans ?_
  have e : idx_main_v16 (ix3 r j (0 : Fin 1)) = ix2 r j := by
    funext b
    match b with
    | ⟨0, _⟩ => rfl
    | ⟨1, _⟩ => rfl
  rw [val_main_v16_apply, e, val_main_v13_apply, val_main_v10_apply, val_main_v9_apply, val_main_c_1_apply, indices_at]
  exact wrap_ofNat (by have := (sortedFrom (before (row x0 r)) (j.castLE (by decide))).isLt; omega) _

/-- Overwriting by ones at some of a list's steps leaves one exactly when some step is such. -/
theorem foldl_flag {ι : Type} (P : ι → Prop) [DecidablePred P] (l : List ι) (v : ι → EReal) (hv : ∀ i, v i = 1) (Q : Prop)
    (a : EReal) (ha : a = ind Q) : l.foldl (fun a i => if P i then v i else a) a = ind (Q ∨ ∃ i ∈ l, P i) := by
  induction l generalizing a Q with
  | nil => simpa using ha
  | cons i l ih =>
    rw [List.foldl_cons, ih (Q ∨ P i)]
    · exact ind_congr (by simp only [List.mem_cons, exists_eq_or_imp, or_assoc])
    · split <;> rename_i h
      · rw [hv, ind_true (Or.inr h)]
      · rw [ha]; exact ind_congr (by simp [h])

/-- The scattered matrix is the indicator of every row's first five columns. -/
theorem v19_at (r : Fin 1024) (c : Fin 100000) : val_main_v19 (F := Ideal) x0 (ix2 r c) = ind (c ∈ top5 (row x0 r)) := by
  unfold val_main_v19
  rw [scatter_at, foldl_flag _ _ _ (fun i => by rw [val_main_v18_apply, val_main_cst_3_apply]; exact Ideal.ofBits_one_f32) False _
    (by rw [val_main_v1_apply, val_main_cst_apply, ind_false not_false]; exact Ideal.ofBits_zero_f32)]
  refine ind_congr ?_
  rw [false_or, mem_top5_iff _ (by decide)]
  have lands := fun (a : Fin 1024) (b : Fin 5) => scatter_lands2 scatter_S1024x100000_S1024x5x2_S1024x5_n_01_01_2 rfl rfl rfl
    (val_main_v17 (F := Ideal) x0) a b r c
  have small := fun (a : Fin 1024) (b : Fin 5) => (sortedFrom (before (row x0 a)) (b.castLE (by decide))).isLt
  simp only [v17_row, v17_column] at lands
  constructor
  · rintro ⟨n, -, hn⟩
    obtain ⟨a, b, hk⟩ : ∃ (a : Fin 1024) (b : Fin 5), S1024x5.rowMajor.symm n = ix2 a b := ⟨_, _, eq_ix2 _⟩
    rw [hk] at hn
    obtain ⟨h0, h1⟩ := (lands a b).mp hn
    rw [toInt_ofNat (a.isLt.trans (by decide))] at h0
    rw [toInt_ofNat ((small a b).trans (by decide))] at h1
    have hr : a = r := Fin.ext (by exact_mod_cast h0)
    subst hr
    exact ⟨b, Fin.ext (by exact_mod_cast h1)⟩
  · rintro ⟨j, hj⟩
    refine ⟨S1024x5.rowMajor (ix2 r j), List.mem_finRange _, ?_⟩
    rw [Equiv.symm_apply_apply]
    refine (lands r j).mpr ⟨toInt_ofNat (r.isLt.trans (by decide)), ?_⟩
    rw [toInt_ofNat ((small _ _).trans (by decide)), hj]

variable (lab : Fin 1024 → Fin 100000) (hlab : ∀ r, x1 (ix1 r) = BitVec.ofNat 32 (lab r).val)

include hlab in
/-- The one-hot matrix is the indicator of every row's label. -/
theorem v0_at (r : Fin 1024) (c : Fin 100000) : val_main_v0 (F := Ideal) x1 (ix2 r c) = ind (lab r = c) := by
  have e2 : idx_main_call0_v0 (idx_main_call0_v2 (ix2 r c)) = ix1 r := by
    funext b
    match b with
    | ⟨0, _⟩ => rfl
  rw [val_main_v0_apply, val_main_call0_v4_apply, val_main_call0_v2_apply, val_main_call0_v0_apply, e2, hlab,
    val_main_call0_v3_apply, val_main_call0_v1_apply]
  show (((IntOp.cmpi .eq (BitVec.ofNat 32 (lab r).val) (BitVec.ofNat 32 c.val)).toNat : ℝ) : EReal) = _
  have h : BitVec.ofNat 32 (lab r).val = BitVec.ofNat 32 c.val ↔ lab r = c := by
    constructor
    · intro h
      have := congrArg BitVec.toInt h
      rw [toInt_ofNat ((lab r).isLt.trans (by decide)), toInt_ofNat (c.isLt.trans (by decide))] at this
      exact Fin.ext (by exact_mod_cast this)
    · rintro h; rw [h]
  by_cases hc : lab r = c
  · rw [ind_true hc, IntOp.cmpi, h.mpr hc]
    simp
  · rw [ind_false hc, IntOp.cmpi]
    simp [beq_eq_false_iff_ne.mpr (fun e => hc (h.mp e))]

/-- Column `k` of the part after column 0. -/
theorem shift (r : Fin 1024) (k : Fin 99999) : idx_main_v20 (ix2 r k) = ix2 r (k.succ : Fin (99999 + 1)) := by
  funext b
  match b with
  | ⟨0, _⟩ => rfl
  | ⟨1, _⟩ => exact Fin.ext (Nat.add_comm 1 k.val)

theorem v20_at (r : Fin 1024) (k : Fin 99999) :
    val_main_v20 (F := Ideal) x0 (ix2 r k) = ind ((k.succ : Fin (99999 + 1)) ∈ top5 (row x0 r)) := by
  rw [val_main_v20_apply, shift, v19_at]

include hlab in
theorem v21_at (r : Fin 1024) (k : Fin 99999) :
    val_main_v21 (F := Ideal) x1 (ix2 r k) = ind (lab r = (k.succ : Fin (99999 + 1))) := by
  rw [val_main_v21_apply]
  exact (congrArg _ (shift r k)).trans (v0_at x1 lab hlab r _)

include hlab in
/-- The entry of row `r` in the vector the mean is taken over is the row's F1 score. -/
theorem v44_at (r : Fin 1024) : val_main_v44 (F := Ideal) x0 x1 (ix1 r) = f1 (n := 99999) (row x0 r) (lab r) := by
  have s23 : ∀ k, idx_main_v23 (ix1 r) k = ix2 r k := fun k => by
    funext b
    match b with
    | ⟨0, _⟩ => rfl
    | ⟨1, _⟩ => rfl
  have h23 : val_main_v23 (F := Ideal) x0 x1 (ix1 r)
      = ∑ k : Fin 99999, ind ((k.succ : Fin (99999 + 1)) ∈ top5 (row x0 r)) * ind (lab r = (k.succ : Fin (99999 + 1))) := by
    rw [val_main_v23_apply, val_main_cst_4_apply]
    refine (congrArg₂ (· + ·) Ideal.ofBits_zero_f32 (Finset.sum_congr rfl fun k _ => ?_)).trans (zero_add _)
    rw [s23, val_main_v22_apply, v20_at, v21_at x1 lab hlab]
    rfl
  have h27 : val_main_v27 (F := Ideal) x0 x1 (ix1 r)
      = ∑ k : Fin 99999, ind ((k.succ : Fin (99999 + 1)) ∈ top5 (row x0 r)) * (1 - ind (lab r = (k.succ : Fin (99999 + 1)))) := by
    rw [val_main_v27_apply, val_main_cst_6_apply]
    refine (congrArg₂ (· + ·) Ideal.ofBits_zero_f32 (Finset.sum_congr rfl fun k _ => ?_)).trans (zero_add _)
    rw [show idx_main_v27 (ix1 r) k = ix2 r k from s23 k, val_main_v26_apply, v20_at, val_main_v25_apply, v21_at x1 lab hlab,
      val_main_v24_apply, val_main_cst_5_apply]
    rw [← Ideal.ofBits_one_f32]
    rfl
  have h31 : val_main_v31 (F := Ideal) x0 x1 (ix1 r)
      = ∑ k : Fin 99999, (1 - ind ((k.succ : Fin (99999 + 1)) ∈ top5 (row x0 r))) * ind (lab r = (k.succ : Fin (99999 + 1))) := by
    rw [val_main_v31_apply, val_main_cst_8_apply]
    refine (congrArg₂ (· + ·) Ideal.ofBits_zero_f32 (Finset.sum_congr rfl fun k _ => ?_)).trans (zero_add _)
    rw [show idx_main_v31 (ix1 r) k = ix2 r k from s23 k, val_main_v30_apply, val_main_v29_apply, v20_at, v21_at x1 lab hlab,
      val_main_v28_apply, val_main_cst_7_apply]
    rw [← Ideal.ofBits_one_f32]
    rfl
  rw [← f1Of_counts (n := 99999) (row x0 r) (lab r) (by decide), ← h23, ← h27, ← h31]
  generalize hA : val_main_v23 (F := Ideal) x0 x1 (ix1 r) = A
  generalize hB : val_main_v27 (F := Ideal) x0 x1 (ix1 r) = B
  generalize hC : val_main_v31 (F := Ideal) x0 x1 (ix1 r) = C
  have two : Ideal.ofBits .f32 0x40000000#32 = 2 := by
    rw [show (2 : EReal) = ((2 : ℝ) : EReal) from rfl]
    simp [Ideal.ofBits, Ideal.ieee, -EReal.coe_mul]; norm_num
  have hD : val_main_v35 (F := Ideal) x0 x1 (ix1 r) = 2 * A + B + C := by
    rw [val_main_v35_apply, val_main_v34_apply, val_main_v33_apply, val_main_v32_apply, val_main_cst_9_apply, hA, hB, hC, ← two]
    rfl
  have hN : val_main_v39 (F := Ideal) x0 x1 (ix1 r) = 2 * A := by
    rw [val_main_v39_apply, val_main_v38_apply, val_main_cst_11_apply, hA, ← two]
    rfl
  have sel : ∀ (D x y : EReal), Scalar.select (FloatOps.cmpf (F := Ideal) (φ := .f32) .ogt D (Ideal.ofBits .f32 0x00000000#32)) x y
      = if 0 < D then x else y := fun D x y => by
    rw [Ideal.ofBits_zero_f32]
    by_cases h : 0 < D <;> simp [Scalar.select, Ideal.cmpf_def, Ideal.cmp, h]
  rw [val_main_v44_apply, val_main_v43_apply, val_main_v42_apply, val_main_v37_apply, val_main_v41_apply, hD, hN,
    val_main_v36_apply, val_main_cst_10_apply, val_main_v40_apply, val_main_cst_12_apply, val_main_call1_v1_apply,
    val_main_call1_v0_apply, val_main_cst_13_apply, val_main_call2_v1_apply, val_main_call2_v0_apply, val_main_cst_14_apply]
  refine (sel _ _ _).trans ?_
  unfold f1Of
  rw [Ideal.hostDivf_def]
  refine if_congr Iff.rfl (congrArg (Ideal.div (2 * A)) ?_) Ideal.ofBits_zero_f32
  exact (sel _ _ _).trans (if_congr Iff.rfl rfl Ideal.ofBits_one_f32)

include hlab in
/-- The reference's result: the mean of the rows' F1 scores. -/
theorem result (i : S_.Idx) : val_main_v46 (F := Ideal) x0 x1 i
    = Ideal.div (∑ r : Fin 1024, f1 (n := 99999) (row x0 r) (lab r)) (1024 : ℝ) := by
  have k : Ideal.ofBits .f32 0x44800000#32 = ((1024 : ℝ) : EReal) := by
    simp [Ideal.ofBits, Ideal.ieee, -EReal.coe_mul]; norm_num
  rw [val_main_v46_apply, val_main_v45_apply, val_main_cst_15_apply, val_main_cst_16_apply, Ideal.hostDivf_def]
  refine congrArg₂ Ideal.div ((congrArg₂ (· + ·) Ideal.ofBits_zero_f32 ?_).trans (zero_add _)) k
  let e : Fin 1024 ≃ S1024.Idx := ⟨fun r => ix1 r, fun j => j 0, fun _ => rfl, fun j => (eq_ix1 j).symm⟩
  refine (Fintype.sum_equiv e _ _ fun r => ?_).symm
  exact (v44_at x0 x1 lab hlab r).symm

end Cert.ReferenceIdeal.Top
-- ==== Proof.KernelValue.lean ====
/-
  The kernel's result over the extended reals. Grid point `t` adds the F1 scores of rows 32·t to 32·t + 31 to the carried
  cell; after the last point the cell is written out, and the host divides the total by 1024.
-/
module

public import proofs.«01_k».proof.Proof.Labels
public import proofs.«01_k».proof.Proof.Block
public import proofs.«01_k».proof.Proof.Score
public import proofs.«01_k».proof.Proof.Reference
public import Idealize.ShloMosaic.Lib.Pipeline.Value

@[expose] public section

noncomputable section

namespace Cert.KernelIdeal.Value

open Idealize.ShloMosaic Idealize.ShloMosaic.TcCoe Idealize.ShloMosaic.ValueIdx
open Cert.KernelIdeal Cert.KernelIdeal.Gen Cert.KernelIdeal.Block Cert.TopFive

variable (m : (ℓ : Loc nD τ sig) → Buf (Elt Ideal) ℓ) (ρ : Dev nD → PrngReg)

/-- The score array, a row and a class at a time. -/
def scores (c : Dev nD) (r : Fin 1024) (k : Fin 100000) : EReal := m ((c : Thread nD τ).loc main_arg0) (ix2 r k)

/-- Row `k` of the block of grid point `t`. -/
def rowOf (t : Fin cfg0.N) (k : Fin 32) : Fin 1024 := ⟨32 * t.val + k.val, by have := t.isLt; have h : cfg0.N = 32 := N_0; omega⟩

/-- At grid point `t` the three input windows stand at block row `t`, block column 0. -/
theorem stands (t : Fin cfg0.N) : (win0_0.index t 0 = t.val ∧ win0_0.index t 1 = 0)
    ∧ (win0_1.index t 0 = t.val ∧ win0_1.index t 1 = 0) ∧ (win0_2.index t 0 = t.val ∧ win0_2.index t 1 = 0) := by
  revert t
  decide +kernel

/-- The first window's block holds rows `32·t` to `32·t + 31` of the scores. -/
theorem block_scores (c : Dev nD) (t : Fin cfg0.N) (k : Fin 32) (col : Fin 100000) :
    (iblk m c 0 t : Vec Ideal S32x100000 .f32) (ix2 k col) = scores m c (rowOf t k) col := by
  have hi := (stands t).1
  unfold iblk scores
  rw [View.read_apply]
  show V m c main_arg0 _ = _
  rw [V_main_arg0]
  refine congrArg (m ((c : Thread nD τ).loc main_arg0)) (funext fun a => Fin.ext ?_)
  match a with
  | ⟨0, _⟩ => show win0_0.index t 0 * 32 + 1 * k.val = 32 * t.val + k.val; rw [hi.1]; omega
  | ⟨1, _⟩ => show win0_0.index t 1 * 100000 + 1 * col.val = col.val; rw [hi.2]; omega

/-- The label column, read at a row. -/
theorem column_at (c : Dev nD) (i : S1024x1.Idx) (r : Fin 1024) (h : (i 0).val = r.val) :
    V m c main_v0 i = m ((c : Thread nD τ).loc main_arg1) (ix1 r) := by
  rw [Labels.V_labels]
  refine shapeCast_apply _ _ i (ix1 r) ?_
  have h1 : (i 1).val < 1 := (i 1).isLt
  rw [Shape.rowMajor_val_one, Shape.rowMajor_val_two]
  show r.val = (i 0).val * 1 + (i 1).val
  omega

/-- The second window's block holds the labels of those rows. -/
theorem block_labels (c : Dev nD) (t : Fin cfg0.N) (k : Fin 32) :
    (iblk m c 1 t : Vec Ideal S32x1 .i32) (ix2 k (0 : Fin 1)) = m ((c : Thread nD τ).loc main_arg1) (ix1 (rowOf t k)) := by
  have hi := (stands t).2.1
  unfold iblk
  rw [View.read_apply]
  show V m c main_v0 _ = _
  refine column_at m c _ _ ?_
  show win0_1.index t 0 * 32 + 1 * k.val = 32 * t.val + k.val
  rw [hi.1]; omega

/-- The third window's block holds the same labels. -/
theorem block_words (c : Dev nD) (t : Fin cfg0.N) (k : Fin 32) :
    (iblk m c 2 t : Vec Ideal S32x1 .i32) (ix2 k (0 : Fin 1)) = m ((c : Thread nD τ).loc main_arg1) (ix1 (rowOf t k)) := by
  have hi := (stands t).2.2
  unfold iblk
  rw [View.read_apply]
  show V m c main_v0 _ = _
  refine column_at m c _ _ ?_
  show win0_2.index t 0 * 32 + 1 * k.val = 32 * t.val + k.val
  rw [hi.1]; omega

variable (hb : ∀ (c : Dev nD) i, (m ((c : Thread nD τ).loc main_arg1) i).toNat < 99968)

/-- A row's label as a class. -/
def label (c : Dev nD) (r : Fin 1024) : Fin 100000 := ⟨(m ((c : Thread nD τ).loc main_arg1) (ix1 r)).toNat, by have := hb c (ix1 r); omega⟩

/-- The label word is the class's number. -/
theorem label_word (c : Dev nD) (r : Fin 1024) : m ((c : Thread nD τ).loc main_arg1) (ix1 r) = BitVec.ofNat 32 (label m hb c r).val :=
  (show ∀ w : BitVec 32, w = BitVec.ofNat 32 w.toNat from fun w => BitVec.eq_of_toNat_eq (by rw [BitVec.toNat_ofNat, Nat.mod_eq_of_lt w.isLt])) _

/-- One row's F1 score. -/
def rowScore (c : Dev nD) (r : Fin 1024) : EReal := f1 (n := 99999) (scores m c r) (label m hb c r)

include hb in
/-- Every row's tile lies inside the block, at every point. -/
theorem tiles_inside (c : Dev nD) (t : Fin cfg0.N) : TilesInside (ms0_2 t) (hs0_2 t) (iblk m c 2 t) := fun k =>
  tile_inside k.val k.isLt (by
    rw [show rawWord (ms0_2 t) (hs0_2 t) (iblk m c 2 t) k = wordAt (iblk m c 2 t) k from word_read (ms0_2 t) (hs0_2 t) (iblk m c 2 t) k _ _]
    exact Labels.block_bound m hb c t _)

/-- What one point adds: the F1 scores of its 32 rows. -/
theorem point_sum (c : Dev nD) (t : Fin cfg0.N) :
    blockSum (iblk m c 0 t) (iblk m c 1 t) (iblk m c 2 t) = ∑ k : Fin 32, rowScore m hb c (rowOf t k) := by
  refine (blockSum_eq _ _ _ (fun k => label m hb c (rowOf t k)) (fun k => hb c _)
    (fun k => (block_labels m c t k).trans (label_word m hb c _)) (fun k => (block_words m c t k).trans (label_word m hb c _))).trans ?_
  refine Finset.sum_congr rfl fun k _ => congrArg (fun p => f1 (n := 99999) p (label m hb c (rowOf t k))) ?_
  exact funext fun col => block_scores m c t k col

/-- The sum the points below `n` have added. -/
def upTo (c : Dev nD) (n : ℕ) : EReal :=
  ∑ t : Fin cfg0.N, if t.val < n then ∑ k : Fin 32, rowScore m hb c (rowOf t k) else 0

/-- One more point adds its own 32 rows. -/
theorem upTo_succ (c : Dev nD) (t : Fin cfg0.N) :
    upTo m hb c (t.val + 1) = upTo m hb c t.val + ∑ k : Fin 32, rowScore m hb c (rowOf t k) := by
  unfold upTo
  have e : ∑ k : Fin 32, rowScore m hb c (rowOf t k)
      = ∑ u : Fin cfg0.N, if u = t then ∑ k : Fin 32, rowScore m hb c (rowOf u k) else 0 := by
    rw [Finset.sum_ite_eq' Finset.univ t, if_pos (Finset.mem_univ t)]
  rw [e, ← Finset.sum_add_distrib]
  refine Finset.sum_congr rfl fun u _ => ?_
  rcases Nat.lt_trichotomy u.val t.val with h | h | h
  · rw [if_pos (by omega), if_pos h, if_neg (fun e => by rw [e] at h; omega), add_zero]
  · rw [if_pos (by omega), if_neg (by omega), if_pos (Fin.ext h), zero_add]
  · rw [if_neg (by omega), if_neg (by omega), if_neg (fun e => by rw [e] at h; omega), add_zero]

/-- The carried cell after point `n` holds the sum of the points up to `n`. -/
theorem carried (c : Dev nD) : ∀ (n : ℕ) (h : n < cfg0.N),
    (outsAt0 m (Labels.hyps m hb) c n h).2 = fun _ => upTo m hb c (n + 1)
  | 0, h => by
    refine (congrArg Prod.snd (outsAt0_A m (Labels.hyps m hb) c ⟨0, h⟩ rfl (Nat.not_succ_le_zero 0) (by show ¬0 % 32 = 31; decide))).trans ?_
    dsimp only
    refine (sout_A (H := tiles_inside m hb c ⟨0, h⟩) ..).trans (funext fun _ => ?_)
    rw [point_sum m hb, show upTo m hb c (0 + 1) = _ from upTo_succ m hb c ⟨0, h⟩]
    have : upTo m hb c 0 = 0 := Finset.sum_eq_zero fun t _ => if_neg (Nat.not_lt_zero _)
    rw [show ((⟨0, h⟩ : Fin cfg0.N).val) = 0 from rfl, this, zero_add]
  | n + 1, h => by
    have hN : cfg0.N = 32 := N_0
    have step : (fun _ => Scalar.addf ((outsAt0 m (Labels.hyps m hb) c n (Nat.lt_of_succ_lt h)).2 (ix1 (0 : Fin 1)))
        (blockSum (iblk m c 0 ⟨n + 1, h⟩) (iblk m c 1 ⟨n + 1, h⟩) (iblk m c 2 ⟨n + 1, h⟩)) : Vec Ideal S1 .f32)
        = fun _ => upTo m hb c (n + 1 + 1) := funext fun _ => by
      rw [carried c n, point_sum m hb, show upTo m hb c (n + 1 + 1) = _ from upTo_succ m hb c ⟨n + 1, h⟩]
      rfl
    by_cases h31 : (n + 1) % 32 = 31
    · refine (congrArg Prod.snd (outsAt0_C m (Labels.hyps m hb) c ⟨n + 1, h⟩ (by dsimp only; omega) (by dsimp only; omega) h31)).trans ?_
      dsimp only
      exact (sout_C (H := tiles_inside m hb c ⟨n + 1, h⟩) ..).trans step
    · refine (congrArg Prod.snd (outsAt0_B m (Labels.hyps m hb) c ⟨n + 1, h⟩ (by dsimp only; omega) (by dsimp only; omega) h31)).trans ?_
      dsimp only
      exact (sout_B (H := tiles_inside m hb c ⟨n + 1, h⟩) ..).trans step

/-- The last grid point. -/
def last : Fin cfg0.N := ⟨31, by rw [show cfg0.N = 32 from N_0]; decide⟩

/-- The total over all rows, as the kernel's one output cell. -/
def total (c : Dev nD) : Buf (Elt Ideal) ((c : Thread nD τ).loc main_v1) :=
  (fun _ => ∑ r : Fin 1024, rowScore m hb c r : S1x1.Idx → EReal)

/-- The points' sums together are the sum over all 1024 rows. -/
theorem upTo_all (c : Dev nD) : upTo m hb c 32 = ∑ r : Fin 1024, rowScore m hb c r := by
  have hN : cfg0.N = 32 := N_0
  unfold upTo
  rw [Finset.sum_congr rfl (fun t _ => if_pos (by have := t.isLt; omega)), ← Fintype.sum_prod_type']
  refine Fintype.sum_equiv (((finCongr hN).prodCongr (Equiv.refl _)).trans finProdFinEquiv) _ _ fun p => ?_
  refine congrArg (rowScore m hb c) (Fin.ext ?_)
  show 32 * p.1.val + p.2.val = p.2.val + 32 * p.1.val
  omega

/-- The output cell after the last point. -/
theorem written (c : Dev nD) : (outsAt0 m (Labels.hyps m hb) c last.val last.isLt).1 = fun _ => ∑ r : Fin 1024, rowScore m hb c r := by
  refine (congrArg Prod.fst (outsAt0_C m (Labels.hyps m hb) c last (by decide) (by decide) rfl)).trans ?_
  dsimp only
  refine (out_C (H := tiles_inside m hb c last) ..).trans (funext fun _ => ?_)
  rw [carried m hb c (last.val - 1), point_sum m hb, ← upTo_all, show upTo m hb c 32 = _ from upTo_succ m hb c last]
  rfl

/-- The one write-back writes the total. -/
theorem flushed (c : Dev nD) (t : Fin cfg0.N) (hf : (cfg0.win 3).flush t = true) :
    (dats m (Labels.hyps m hb) 0 c).flushed 3 t = ((cfg0.win 3).blk t).view.read (Elt Ideal) (total m hb c) := by
  have hN : cfg0.N = 32 := N_0
  obtain rfl : t = last := Fin.ext (by have := (flush0_3 t).mp hf; have := t.isLt; show t.val = 31; omega)
  show (cfg0.win 3).cut (grid0.coords last) ((dats m (Labels.hyps m hb) 0 c).after 3 last) = _
  rw [after0_3, written]
  have hz : (fun a => win0_3.index last a * main_v1.ty.shape.size a) = fun _ => 0 := funext fun a => by fin_cases a <;> decide +kernel
  exact (Memref.read_access_unit_zero (Elt Ideal) main_v1 hz (fun a => by rw [congrFun hz a]; simp) (total m hb c)).symm

/-- The kernel's output array ends holding the total: its one block is the whole array. -/
theorem output (c : Dev nD) : (dats m (Labels.hyps m hb) 0 c).arrAt 3 cfg0.N = total m hb c :=
  (dats m (Labels.hyps m hb) 0 c).arrAt_eq_of_cover 3 (total m hb c) (flushed m hb c) fun i =>
    ⟨last, (flush0_3 last).mpr rfl, by
      show i ∈ ((View.whole main_v1).slice (win0_3.rect last)).set
      rw [View.set_slice_whole, Rect.mem_set_unit]
      intro a
      have hi : (i a : Nat) < 1 := by match a with | ⟨0, _⟩ => exact (i 0).isLt | ⟨1, _⟩ => exact (i 1).isLt
      show win0_3.index last a * win0_3.size a ≤ (i a : Nat) ∧ (i a : Nat) < win0_3.index last a * win0_3.size a + win0_3.xsize (grid0.coords last) a
      have h0 : win0_3.index last a * win0_3.size a = 0 := (show ∀ a : Fin 2, win0_3.index last a * win0_3.size a = 0 by decide +kernel) a
      have h1 : win0_3.xsize (grid0.coords last) a = 1 := (show ∀ a : Fin 2, win0_3.xsize (grid0.coords last) a = 1 by decide +kernel) a
      rw [h0, h1]; omega⟩

/-- What the host returns: the total divided by 1024. -/
def mean (c : Dev nD) : Buf (Elt Ideal) ((c : Thread nD τ).loc main_v3) :=
  (fun _ => Ideal.div (∑ r : Fin 1024, rowScore m hb c r) (1024 : ℝ) : S_.Idx → EReal)

/-- The host's scale is exactly one 1024th. -/
theorem scale : Ideal.ofBits .f32 0x3A800000#32 = ((1 / 1024 : ℝ) : EReal) := by
  simp [Ideal.ofBits, Ideal.ieee, -EReal.coe_mul]; norm_num

/-- The lines after the region leave the mean in the result. -/
theorem returned (c : Dev nD) : Pipeline.afterTail₀ cfgs (dats m (Labels.hyps m hb)) 0 (V0 m) [hostOps1] c main_v3 = mean m hb c := by
  unfold Pipeline.afterTail₀
  simp only [hostOps1, List.flatten_cons, List.flatten_nil, List.append_nil]
  after_results
  have e := (dats m (Labels.hyps m hb) 0 c).withArrays_arrAt sharedIn0 (V0 m c) (fun w => A_eq m (Labels.hyps m hb) c w) 3
  rw [output m hb c] at e
  funext i
  unfold mean
  rw [Ideal.div_coe (by norm_num), ← scale]
  refine congrArg (· * Ideal.ofBits .f32 0x3A800000#32) ?_
  exact congrFun e _

/-- The run: the result holds the mean, and the arguments end unchanged. -/
theorem run : θ_run defs (onTc (τ := τ) (main (F := Ideal))) ⟨m, fun _ => 0, ρ⟩ fun r => ∀ c : Dev nD,
    r.2.mem ((c : Thread nD τ).loc main_v3) = mean m hb c
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun _ h c => ⟨((h.1 c).2 main_v3 (by decide)).trans (returned m hb c), h.2 c⟩)
    (θ_run_and (run_main m ρ (Labels.hyps m hb)) (unchanged m ρ (Labels.hyps m hb)))

end Cert.KernelIdeal.Value

end
-- ==== Proof.lean ====
/-
  The proof of `Cert.Claim`: the three frames, the preservation and the equality of the kernel and the reference over the
  extended reals. Every label is bounded by the precondition (Proof/Labels.lean); both programs return the mean over the
  rows of one F1 score per row, the kernel by Proof/KernelValue.lean and the reference by Proof/Reference.lean.
-/
module

public import proofs.«01_k».proof.Defs
public import proofs.«01_k».proof.Proof.Labels
public import proofs.«01_k».proof.Proof.KernelValue
public import proofs.«01_k».proof.Proof.Reference
public import proofs.«01_k».proof.Proof.Gen.ReferenceIdeal.Run
public import proofs.«01_k».proof.Proof.Gen.ReferenceIdeal.Read
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem Idealize.ShloMosaic.ValueIdx Cert.TopFive

/-- The kernel's frame: under the precondition every side condition the body assumes holds. -/
theorem frame_kernel : Cert.quiescent_Kernel := fun m ρ h =>
  Cert.Kernel.Gen.frame m ρ (Cert.Kernel.Labels.hyps m fun c i => label_bound _ _ (h c) i)

/-- The same of the kernel read over the extended reals. -/
theorem frame_kernel_ideal : Cert.quiescent_KernelIdeal := fun m ρ h =>
  Cert.KernelIdeal.Gen.frame m ρ (Cert.KernelIdeal.Labels.hyps m fun c i => label_bound _ _ (h c) i)

/-- The reference's frame: its run leaves the arguments alone, and it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel and the reference return the same mean of the rows' F1 scores, and leave their arguments unchanged. -/
theorem equal : Cert.algebraic_KernelIdeal_ReferenceIdeal := fun m ρ m' ρ' h hagree => by
  have hb (c : Dev Cert.KernelIdeal.nD) (i) : (m ((c : Thread Cert.KernelIdeal.nD Cert.KernelIdeal.τ).loc Cert.KernelIdeal.main_arg1) i).toNat < 99968 :=
    label_bound _ _ (h c) i
  refine ⟨fun c => Cert.KernelIdeal.Value.mean m hb c, Cert.KernelIdeal.Value.run m ρ hb,
    (θ_run Cert.ReferenceIdeal.defs _ _).mono (fun r h' c => ⟨(h' c).1.trans ?_, (h' c).2⟩) (Cert.ReferenceIdeal.Value.run (F := Ideal) m' ρ')⟩
  refine (Cert.ReferenceIdeal.Read.val_main_v46_eq m' c).trans ?_
  rw [(hagree c).1, (hagree c).2]
  exact funext fun i => Cert.ReferenceIdeal.Top.result _ _ (Cert.KernelIdeal.Value.label m hb c) (Cert.KernelIdeal.Value.label_word m hb c) i

/-- The certificate's claim. -/
theorem claim : Cert.Claim := ⟨Cert.Kernel.Gen.facts, Cert.KernelIdeal.Gen.facts, Cert.ReferenceIdeal.Gen.facts, Cert.Pre_labels_read_inside.Gen.facts,
  frame_kernel, frame_kernel_ideal, frame_reference, fun m ρ _ => frame_reference m ρ trivial, trivial, equal⟩

end Cert.Proof

end
